-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_dim" .f32 0x3AAAAAAB#32 ((1 / 768 : ℝ) : EReal)
  ∧ IdealRules.named_const.Statement Cert.KernelIdeal.κ "qscale" .f32 0x3E38AA3B#32 (((8 * (Real.log 2))⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x768 : Shape := ⟨3, ![1, 2048, 768]⟩
abbrev S2048x32x2 : Shape := ⟨3, ![2048, 32, 2]⟩
abbrev S8x768x768 : Shape := ⟨3, ![8, 768, 768]⟩
abbrev S8x768 : Shape := ⟨2, ![8, 768]⟩
abbrev S768x8 : Shape := ⟨2, ![768, 8]⟩
abbrev S8 : Shape := ⟨1, ![8]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S2048x32x2 : S_.BroadcastsInDim S2048x32x2 (![] : Fin 0 → Fin S2048x32x2.rank)
  reducesTo_S2048x32x2_S_d0_1_2 : S2048x32x2.ReducesTo [0, 1, 2] S_
  bcast_S_S8x768x768 : S_.BroadcastsInDim S8x768x768 (![] : Fin 0 → Fin S8x768x768.rank)
  reducesTo_S8x768x768_S_d0_1_2 : S8x768x768.ReducesTo [0, 1, 2] S_
  bcast_S_S8x768 : S_.BroadcastsInDim S8x768 (![] : Fin 0 → Fin S8x768.rank)
  reducesTo_S8x768_S_d0_1 : S8x768.ReducesTo [0, 1] S_

variable [Facts]

def fn_part2 {F : FTy → Type} [FloatOps F] (main_arg9 : FVec F S8x768 .f32) (main_v33 : IVec S_ 1) : IVec S_ 1 :=
  let main_v34 : FVec F S8x768 .f32 := Host.absf main_arg9
  let main_cst_12 : FVec F S_ .f32 := constant S_ .f32 0x7F800000#32
  let main_v35 : FVec F S8x768 .f32 := broadcastInDim S8x768 ![] bcast_S_S8x768 main_cst_12
  let main_v36 : IVec S8x768 1 := cmpf .olt main_v34 main_v35
  let main_c_13 : IVec S_ 1 := constantI S_ 1 1#1
  let main_v37 : IVec S_ 1 := (fun x v => Host.reduce IntOp.andi x v reducesTo_S8x768_S_d0_1 h_S_) main_v36 main_c_13
  let main_v38 : IVec S_ 1 := andi main_v33 main_v37
  main_v38

def fn_part1 {F : FTy → Type} [FloatOps F] (main_arg6 : FVec F S8x768 .f32) (main_arg7 : FVec F S8x768 .f32) (main_arg8 : FVec F S8x768 .f32) (main_arg9 : FVec F S8x768 .f32) (main_v13 : IVec S_ 1) (main_v16 : IVec S8x768x768 1) : IVec S_ 1 :=
  let main_c_5 : IVec S_ 1 := constantI S_ 1 1#1
  let main_v17 : IVec S_ 1 := (fun x v => Host.reduce IntOp.andi x v reducesTo_S8x768x768_S_d0_1_2 h_S_) main_v16 main_c_5
  let main_v18 : IVec S_ 1 := andi main_v13 main_v17
  let main_v19 : FVec F S8x768 .f32 := Host.absf main_arg6
  let main_cst_6 : FVec F S_ .f32 := constant S_ .f32 0x7F800000#32
  let main_v20 : FVec F S8x768 .f32 := broadcastInDim S8x768 ![] bcast_S_S8x768 main_cst_6
  let main_v21 : IVec S8x768 1 := cmpf .olt main_v19 main_v20
  let main_c_7 : IVec S_ 1 := constantI S_ 1 1#1
  let main_v22 : IVec S_ 1 := (fun x v => Host.reduce IntOp.andi x v reducesTo_S8x768_S_d0_1 h_S_) main_v21 main_c_7
  let main_v23 : IVec S_ 1 := andi main_v18 main_v22
  let main_v24 : FVec F S8x768 .f32 := Host.absf main_arg7
  let main_cst_8 : FVec F S_ .f32 := constant S_ .f32 0x7F800000#32
  let main_v25 : FVec F S8x768 .f32 := broadcastInDim S8x768 ![] bcast_S_S8x768 main_cst_8
  let main_v26 : IVec S8x768 1 := cmpf .olt main_v24 main_v25
  let main_c_9 : IVec S_ 1 := constantI S_ 1 1#1
  let main_v27 : IVec S_ 1 := (fun x v => Host.reduce IntOp.andi x v reducesTo_S8x768_S_d0_1 h_S_) main_v26 main_c_9
  let main_v28 : IVec S_ 1 := andi main_v23 main_v27
  let main_v29 : FVec F S8x768 .f32 := Host.absf main_arg8
  let main_cst_10 : FVec F S_ .f32 := constant S_ .f32 0x7F800000#32
  let main_v30 : FVec F S8x768 .f32 := broadcastInDim S8x768 ![] bcast_S_S8x768 main_cst_10
  let main_v31 : IVec S8x768 1 := cmpf .olt main_v29 main_v30
  let main_c_11 : IVec S_ 1 := constantI S_ 1 1#1
  let main_v32 : IVec S_ 1 := (fun x v => Host.reduce IntOp.andi x v reducesTo_S8x768_S_d0_1 h_S_) main_v31 main_c_11
  let main_v33 : IVec S_ 1 := andi main_v28 main_v32
  fn_part2 (F := F) main_arg9 main_v33

def fn {F : FTy → Type} [FloatOps F] (main_arg0 : FVec F S1x2048x768 .f32) (main_arg1 : FVec F S2048x32x2 .f32) (main_arg2 : FVec F S8x768x768 .f32) (main_arg3 : FVec F S8x768x768 .f32) (main_arg4 : FVec F S8x768x768 .f32) (main_arg5 : FVec F S8x768x768 .f32) (main_arg6 : FVec F S8x768 .f32) (main_arg7 : FVec F S8x768 .f32) (main_arg8 : FVec F S8x768 .f32) (main_arg9 : FVec F S8x768 .f32) (main_arg10 : FVec F S768x8 .f32) (main_arg11 : FVec F S8 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S2048x32x2 .f32 := Host.absf main_arg1
  let main_cst_0 : FVec F S_ .f32 := constant S_ .f32 0x7F800000#32
  let main_v5 : FVec F S2048x32x2 .f32 := broadcastInDim S2048x32x2 ![] bcast_S_S2048x32x2 main_cst_0
  let main_v6 : IVec S2048x32x2 1 := cmpf .olt main_v4 main_v5
  let main_c_1 : IVec S_ 1 := constantI S_ 1 1#1
  let main_v7 : IVec S_ 1 := (fun x v => Host.reduce IntOp.andi x v reducesTo_S2048x32x2_S_d0_1_2 h_S_) main_v6 main_c_1
  let main_v8 : IVec S_ 1 := andi main_v3 main_v7
  let main_v9 : FVec F S8x768x768 .f32 := Host.absf main_arg2
  let main_cst_2 : FVec F S_ .f32 := constant S_ .f32 0x7F800000#32
  let main_v10 : FVec F S8x768x768 .f32 := broadcastInDim S8x768x768 ![] bcast_S_S8x768x768 main_cst_2
  let main_v11 : IVec S8x768x768 1 := cmpf .olt main_v9 main_v10
  let main_c_3 : IVec S_ 1 := constantI S_ 1 1#1
  let main_v12 : IVec S_ 1 := (fun x v => Host.reduce IntOp.andi x v reducesTo_S8x768x768_S_d0_1_2 h_S_) main_v11 main_c_3
  let main_v13 : IVec S_ 1 := andi main_v8 main_v12
  let main_v14 : FVec F S8x768x768 .f32 := Host.absf main_arg3
  let main_cst_4 : FVec F S_ .f32 := constant S_ .f32 0x7F800000#32
  let main_v15 : FVec F S8x768x768 .f32 := broadcastInDim S8x768x768 ![] bcast_S_S8x768x768 main_cst_4
  let main_v16 : IVec S8x768x768 1 := cmpf .olt main_v14 main_v15
  fn_part1 (F := F) main_arg6 main_arg7 main_arg8 main_arg9 main_v13 main_v16
-- ==== Kernel.lean ====
abbrev S1x2048x768 : Shape := ⟨3, ![1, 2048, 768]⟩
abbrev S2048x32x2 : Shape := ⟨3, ![2048, 32, 2]⟩
abbrev S8x768x768 : Shape := ⟨3, ![8, 768, 768]⟩
abbrev S8x768 : Shape := ⟨2, ![8, 768]⟩
abbrev S768x8 : Shape := ⟨2, ![768, 8]⟩
abbrev S8 : Shape := ⟨1, ![8]⟩
abbrev S768 : Shape := ⟨1, ![768]⟩
abbrev S1x8 : Shape := ⟨2, ![1, 8]⟩
abbrev S2048x768 : Shape := ⟨2, ![2048, 768]⟩
abbrev S_ : Shape := ⟨0, ![]⟩
abbrev S768x1 : Shape := ⟨2, ![768, 1]⟩
abbrev S8x1x768 : Shape := ⟨3, ![8, 1, 768]⟩
abbrev S2048x32x1 : Shape := ⟨3, ![2048, 32, 1]⟩
abbrev S2048x32 : Shape := ⟨2, ![2048, 32]⟩
abbrev S2048x64 : Shape := ⟨2, ![2048, 64]⟩
abbrev S1x2048x1x64 : Shape := ⟨4, ![1, 2048, 1, 64]⟩
abbrev S1x2048x12x64 : Shape := ⟨4, ![1, 2048, 12, 64]⟩
abbrev S1x768x768 : Shape := ⟨3, ![1, 768, 768]⟩
abbrev S1x1x768 : Shape := ⟨3, ![1, 1, 768]⟩
abbrev S2048x1536 : Shape := ⟨2, ![2048, 1536]⟩
abbrev S256x768 : Shape := ⟨2, ![256, 768]⟩
abbrev S768x768 : Shape := ⟨2, ![768, 768]⟩
abbrev S256 : Shape := ⟨1, ![256]⟩
abbrev S256x1 : Shape := ⟨2, ![256, 1]⟩
abbrev S1x768 : Shape := ⟨2, ![1, 768]⟩
abbrev S256x64 : Shape := ⟨2, ![256, 64]⟩
abbrev S2048x128 : Shape := ⟨2, ![2048, 128]⟩
abbrev S256x2048 : Shape := ⟨2, ![256, 2048]⟩
abbrev S256x128 : Shape := ⟨2, ![256, 128]⟩
abbrev S256x8 : Shape := ⟨2, ![256, 8]⟩

abbrev nBuf : Space → Nat
  | .hbm => 78
  | .vmem => 27
  | .smem => 0
  | _ => 0

abbrev bufTy : (tb : Table) → Fin (tcTables nBuf tb) → BufTy
  | .hbm, ⟨0, _⟩ => ⟨S1x2048x768, .f32⟩
  | .hbm, ⟨1, _⟩ => ⟨S2048x32x2, .f32⟩
  | .hbm, ⟨2, _⟩ => ⟨S8x768x768, .f32⟩
  | .hbm, ⟨3, _⟩ => ⟨S8x768x768, .f32⟩
  | .hbm, ⟨4, _⟩ => ⟨S8x768x768, .f32⟩
  | .hbm, ⟨5, _⟩ => ⟨S8x768x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S768x8, .f32⟩
  | .hbm, ⟨11, _⟩ => ⟨S8, .f32⟩
  | .hbm, ⟨12, _⟩ => ⟨S768, .i32⟩
  | .hbm, ⟨13, _⟩ => ⟨S768, .i1⟩
  | .hbm, ⟨14, _⟩ => ⟨S768, .i1⟩
  | .hbm, ⟨15, _⟩ => ⟨S768, .i1⟩
  | .hbm, ⟨16, _⟩ => ⟨S768, .i1⟩
  | .hbm, ⟨17, _⟩ => ⟨S768, .i1⟩
  | .hbm, ⟨18, _⟩ => ⟨S768, .i1⟩
  | .hbm, ⟨19, _⟩ => ⟨S1x8, .f32⟩
  | .hbm, ⟨20, _⟩ => ⟨S2048x768, .f32⟩
  | .hbm, ⟨21, _⟩ => ⟨S2048x768, .bf16⟩
  | .hbm, ⟨22, _⟩ => ⟨S_, .i32⟩
  | .hbm, ⟨23, _⟩ => ⟨S768, .i32⟩
  | .hbm, ⟨24, _⟩ => ⟨S768, .i32⟩
  | .hbm, ⟨25, _⟩ => ⟨S768, .i32⟩
  | .hbm, ⟨26, _⟩ => ⟨S768x1, .i32⟩
  | .hbm, ⟨27, _⟩ => ⟨S8x768x768, .f32⟩
  | .hbm, ⟨28, _⟩ => ⟨S8x768x768, .bf16⟩
  | .hbm, ⟨29, _⟩ => ⟨S_, .i32⟩
  | .hbm, ⟨30, _⟩ => ⟨S768, .i32⟩
  | .hbm, ⟨31, _⟩ => ⟨S768, .i32⟩
  | .hbm, ⟨32, _⟩ => ⟨S768, .i32⟩
  | .hbm, ⟨33, _⟩ => ⟨S768x1, .i32⟩
  | .hbm, ⟨34, _⟩ => ⟨S8x768x768, .f32⟩
  | .hbm, ⟨35, _⟩ => ⟨S8x768x768, .bf16⟩
  | .hbm, ⟨36, _⟩ => ⟨S8x768x768, .bf16⟩
  | .hbm, ⟨37, _⟩ => ⟨S8x768x768, .bf16⟩
  | .hbm, ⟨38, _⟩ => ⟨S_, .i32⟩
  | .hbm, ⟨39, _⟩ => ⟨S768, .i32⟩
  | .hbm, ⟨40, _⟩ => ⟨S768, .i32⟩
  | .hbm, ⟨41, _⟩ => ⟨S768, .i32⟩
  | .hbm, ⟨42, _⟩ => ⟨S768x1, .i32⟩
  | .hbm, ⟨43, _⟩ => ⟨S8x768, .f32⟩
  | .hbm, ⟨44, _⟩ => ⟨S8x1x768, .f32⟩
  | .hbm, ⟨45, _⟩ => ⟨S_, .i32⟩
  | .hbm, ⟨46, _⟩ => ⟨S768, .i32⟩
  | .hbm, ⟨47, _⟩ => ⟨S768, .i32⟩
  | .hbm, ⟨48, _⟩ => ⟨S768, .i32⟩
  | .hbm, ⟨49, _⟩ => ⟨S768x1, .i32⟩
  | .hbm, ⟨50, _⟩ => ⟨S8x768, .f32⟩
  | .hbm, ⟨51, _⟩ => ⟨S8x1x768, .f32⟩
  | .hbm, ⟨52, _⟩ => ⟨S_, .i32⟩
  | .hbm, ⟨53, _⟩ => ⟨S768, .i32⟩
  | .hbm, ⟨54, _⟩ => ⟨S768, .i32⟩
  | .hbm, ⟨55, _⟩ => ⟨S768, .i32⟩
  | .hbm, ⟨56, _⟩ => ⟨S768x1, .i32⟩
  | .hbm, ⟨57, _⟩ => ⟨S8x768, .f32⟩
  | .hbm, ⟨58, _⟩ => ⟨S8x1x768, .f32⟩
  | .hbm, ⟨59, _⟩ => ⟨S_, .i32⟩
  | .hbm, ⟨60, _⟩ => ⟨S768, .i32⟩
  | .hbm, ⟨61, _⟩ => ⟨S768, .i32⟩
  | .hbm, ⟨62, _⟩ => ⟨S768, .i32⟩
  | .hbm, ⟨63, _⟩ => ⟨S768x1, .i32⟩
  | .hbm, ⟨64, _⟩ => ⟨S8x768, .f32⟩
  | .hbm, ⟨65, _⟩ => ⟨S8x1x768, .f32⟩
  | .hbm, ⟨66, _⟩ => ⟨S768x8, .bf16⟩
  | .hbm, ⟨67, _⟩ => ⟨S2048x32x1, .f32⟩
  | .hbm, ⟨68, _⟩ => ⟨S2048x32, .f32⟩
  | .hbm, ⟨69, _⟩ => ⟨S2048x32x1, .f32⟩
  | .hbm, ⟨70, _⟩ => ⟨S2048x32, .f32⟩
  | .hbm, ⟨71, _⟩ => ⟨S2048x64, .f32⟩
  | .hbm, ⟨72, _⟩ => ⟨S1x2048x1x64, .f32⟩
  | .hbm, ⟨73, _⟩ => ⟨S1x2048x12x64, .f32⟩
  | .hbm, ⟨74, _⟩ => ⟨S2048x768, .f32⟩
  | .hbm, ⟨75, _⟩ => ⟨S2048x768, .bf16⟩
  | .hbm, ⟨76, _⟩ => ⟨S2048x768, .f32⟩
  | .hbm, ⟨77, _⟩ => ⟨S1x2048x768, .f32⟩
  | .local _ .vmem, ⟨0, _⟩ => ⟨S2048x768, .bf16⟩
  | .local _ .vmem, ⟨1, _⟩ => ⟨S2048x768, .bf16⟩
  | .local _ .vmem, ⟨2, _⟩ => ⟨S768x8, .bf16⟩
  | .local _ .vmem, ⟨3, _⟩ => ⟨S1x8, .f32⟩
  | .local _ .vmem, ⟨4, _⟩ => ⟨S1x768x768, .bf16⟩
  | .local _ .vmem, ⟨5, _⟩ => ⟨S1x768x768, .bf16⟩
  | .local _ .vmem, ⟨6, _⟩ => ⟨S1x768x768, .bf16⟩
  | .local _ .vmem, ⟨7, _⟩ => ⟨S1x768x768, .bf16⟩
  | .local _ .vmem, ⟨8, _⟩ => ⟨S1x768x768, .bf16⟩
  | .local _ .vmem, ⟨9, _⟩ => ⟨S1x768x768, .bf16⟩
  | .local _ .vmem, ⟨10, _⟩ => ⟨S1x768x768, .bf16⟩
  | .local _ .vmem, ⟨11, _⟩ => ⟨S1x768x768, .bf16⟩
  | .local _ .vmem, ⟨12, _⟩ => ⟨S1x1x768, .f32⟩
  | .local _ .vmem, ⟨13, _⟩ => ⟨S1x1x768, .f32⟩
  | .local _ .vmem, ⟨14, _⟩ => ⟨S1x1x768, .f32⟩
  | .local _ .vmem, ⟨15, _⟩ => ⟨S1x1x768, .f32⟩
  | .local _ .vmem, ⟨16, _⟩ => ⟨S1x1x768, .f32⟩
  | .local _ .vmem, ⟨17, _⟩ => ⟨S1x1x768, .f32⟩
  | .local _ .vmem, ⟨18, _⟩ => ⟨S1x1x768, .f32⟩
  | .local _ .vmem, ⟨19, _⟩ => ⟨S1x1x768, .f32⟩
  | .local _ .vmem, ⟨20, _⟩ => ⟨S2048x768, .f32⟩
  | .local _ .vmem, ⟨21, _⟩ => ⟨S2048x768, .bf16⟩
  | .local _ .vmem, ⟨22, _⟩ => ⟨S2048x768, .bf16⟩
  | .local _ .vmem, ⟨23, _⟩ => ⟨S2048x1536, .bf16⟩
  | .local _ .vmem, ⟨24, _⟩ => ⟨S2048x768, .bf16⟩
  | .local _ .vmem, ⟨25, _⟩ => ⟨S2048x768, .bf16⟩
  | .local _ .vmem, ⟨26, _⟩ => ⟨S2048x768, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_c_4 : Ref sig .tc := ⟨.hbm, 17, rfl⟩
abbrev main_c_5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_6 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_7 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_8 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_9 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v45 : Index := Scalar.indexCast v44
  let c0_86 : Index := 0#32
  ![v45.toNat, 0]
def k0_off2 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v151 : Index := Scalar.indexCast v44
  let c0_130 : Index := 0#32
  ![v151.toNat, 0]
def k0_off3 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v156 : Index := Scalar.indexCast v44
  let c128_131 : Index := 128#32
  ![v156.toNat, 128]
def k0_off4 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v161 : Index := Scalar.indexCast v44
  let c256_132 : Index := 256#32
  ![v161.toNat, 256]
def k0_off5 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v166 : Index := Scalar.indexCast v44
  let c384_133 : Index := 384#32
  ![v166.toNat, 384]
def k0_off6 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v171 : Index := Scalar.indexCast v44
  let c512_134 : Index := 512#32
  ![v171.toNat, 512]
def k0_off7 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v176 : Index := Scalar.indexCast v44
  let c640_135 : Index := 640#32
  ![v176.toNat, 640]
def k0_off8 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v181 : Index := Scalar.indexCast v44
  let c768_136 : Index := 768#32
  ![v181.toNat, 768]
def k0_off9 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v186 : Index := Scalar.indexCast v44
  let c896_137 : Index := 896#32
  ![v186.toNat, 896]
def k0_off10 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v191 : Index := Scalar.indexCast v44
  let c1024_138 : Index := 1024#32
  ![v191.toNat, 1024]
def k0_off11 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v196 : Index := Scalar.indexCast v44
  let c1152_139 : Index := 1152#32
  ![v196.toNat, 1152]
def k0_off12 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v201 : Index := Scalar.indexCast v44
  let c1280_140 : Index := 1280#32
  ![v201.toNat, 1280]
def k0_off13 (k0_t1 : Fin k0_t1_loop.trips) : Fin 2 → Nat :=
  let c0_i32_1 : BitVec 32 := 0#32
  let c1_i32 : BitVec 32 := 1#32
  let arg20 : BitVec 32 := Scf.iv c0_i32_1 c1_i32 k0_t1
  let c256_i32 : BitVec 32 := 256#32
  let v44 : BitVec 32 := Scalar.muli arg20 c256_i32
  let v206 : Index := Scalar.indexCast v44
  let c1408_141 : Index := 1408#32
  ![v206.toNat, 1408]
@[reducible] def k0_t2_loop : Scf.Loop 32 :=
  let c0_i32_6 : BitVec 32 := 0#32
  let c4_i32 : BitVec 32 := 4#32
  let v6 : BitVec 32 := Scalar.addi c0_i32_6 c4_i32
  let c1_i32_7 : BitVec 32 := 1#32
  ⟨c0_i32_6, v6, c1_i32_7⟩
def k0_off14 (k0_t2 : Fin k0_t2_loop.trips) (c0_i32_86 : BitVec 32) : Fin 2 → Nat :=
  let c0_i32_6 : BitVec 32 := 0#32
  let c1_i32_7 : BitVec 32 := 1#32
  let arg20 : BitVec 32 := Scf.iv c0_i32_6 c1_i32_7 k0_t2
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c0_90 : Index := 0#32
  ![v50.toNat, 0]
@[reducible] def k0_t3_loop : Scf.Loop 32 :=
  let c0_i32_11 : BitVec 32 := 0#32
  let c4_i32_12 : BitVec 32 := 4#32
  let v9 : BitVec 32 := Scalar.addi c0_i32_11 c4_i32_12
  let c1_i32_13 : BitVec 32 := 1#32
  ⟨c0_i32_11, v9, c1_i32_13⟩
def k0_off15 (k0_t3 : Fin k0_t3_loop.trips) (c0_i32_86 : BitVec 32) : Fin 2 → Nat :=
  let c0_i32_11 : BitVec 32 := 0#32
  let c1_i32_13 : BitVec 32 := 1#32
  let arg20 : BitVec 32 := Scf.iv c0_i32_11 c1_i32_13 k0_t3
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c64_90 : Index := 64#32
  ![v50.toNat, 64]
@[reducible] def k0_t4_loop : Scf.Loop 32 :=
  let c0_i32_18 : BitVec 32 := 0#32
  let c4_i32_19 : BitVec 32 := 4#32
  let v12 : BitVec 32 := Scalar.addi c0_i32_18 c4_i32_19
  let c1_i32_20 : BitVec 32 := 1#32
  ⟨c0_i32_18, v12, c1_i32_20⟩
def k0_off16 (k0_t4 : Fin k0_t4_loop.trips) (c0_i32_86 : BitVec 32) : Fin 2 → Nat :=
  let c0_i32_18 : BitVec 32 := 0#32
  let c1_i32_20 : BitVec 32 := 1#32
  let arg20 : BitVec 32 := Scf.iv c0_i32_18 c1_i32_20 k0_t4
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c128_90 : Index := 128#32
  ![v50.toNat, 128]
@[reducible] def k0_t5_loop : Scf.Loop 32 :=
  let c0_i32_24 : BitVec 32 := 0#32
  let c4_i32_25 : BitVec 32 := 4#32
  let v15 : BitVec 32 := Scalar.addi c0_i32_24 c4_i32_25
  let c1_i32_26 : BitVec 32 := 1#32
  ⟨c0_i32_24, v15, c1_i32_26⟩
def k0_off17 (k0_t5 : Fin k0_t5_loop.trips) (c0_i32_86 : BitVec 32) : Fin 2 → Nat :=
  let c0_i32_24 : BitVec 32 := 0#32
  let c1_i32_26 : BitVec 32 := 1#32
  let arg20 : BitVec 32 := Scf.iv c0_i32_24 c1_i32_26 k0_t5
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c192_90 : Index := 192#32
  ![v50.toNat, 192]
@[reducible] def k0_t6_loop : Scf.Loop 32 :=
  let c0_i32_31 : BitVec 32 := 0#32
  let c4_i32_32 : BitVec 32 := 4#32
  let v18 : BitVec 32 := Scalar.addi c0_i32_31 c4_i32_32
  let c1_i32_33 : BitVec 32 := 1#32
  ⟨c0_i32_31, v18, c1_i32_33⟩
def k0_off18 (k0_t6 : Fin k0_t6_loop.trips) (c0_i32_86 : BitVec 32) : Fin 2 → Nat :=
  let c0_i32_31 : BitVec 32 := 0#32
  let c1_i32_33 : BitVec 32 := 1#32
  let arg20 : BitVec 32 := Scf.iv c0_i32_31 c1_i32_33 k0_t6
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c256_90 : Index := 256#32
  ![v50.toNat, 256]
@[reducible] def k0_t7_loop : Scf.Loop 32 :=
  let c0_i32_37 : BitVec 32 := 0#32
  let c4_i32_38 : BitVec 32 := 4#32
  let v21 : BitVec 32 := Scalar.addi c0_i32_37 c4_i32_38
  let c1_i32_39 : BitVec 32 := 1#32
  ⟨c0_i32_37, v21, c1_i32_39⟩
def k0_off19 (k0_t7 : Fin k0_t7_loop.trips) (c0_i32_86 : BitVec 32) : Fin 2 → Nat :=
  let c0_i32_37 : BitVec 32 := 0#32
  let c1_i32_39 : BitVec 32 := 1#32
  let arg20 : BitVec 32 := Scf.iv c0_i32_37 c1_i32_39 k0_t7
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c320_90 : Index := 320#32
  ![v50.toNat, 320]
@[reducible] def k0_t8_loop : Scf.Loop 32 :=
  let c0_i32_44 : BitVec 32 := 0#32
  let c4_i32_45 : BitVec 32 := 4#32
  let v24 : BitVec 32 := Scalar.addi c0_i32_44 c4_i32_45
  let c1_i32_46 : BitVec 32 := 1#32
  ⟨c0_i32_44, v24, c1_i32_46⟩
def k0_off20 (k0_t8 : Fin k0_t8_loop.trips) (c0_i32_86 : BitVec 32) : Fin 2 → Nat :=
  let c0_i32_44 : BitVec 32 := 0#32
  let c1_i32_46 : BitVec 32 := 1#32
  let arg20 : BitVec 32 := Scf.iv c0_i32_44 c1_i32_46 k0_t8
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c384_90 : Index := 384#32
  ![v50.toNat, 384]
@[reducible] def k0_t9_loop : Scf.Loop 32 :=
  let c0_i32_50 : BitVec 32 := 0#32
  let c4_i32_51 : BitVec 32 := 4#32
  let v27 : BitVec 32 := Scalar.addi c0_i32_50 c4_i32_51
  let c1_i32_52 : BitVec 32 := 1#32
  ⟨c0_i32_50, v27, c1_i32_52⟩
def k0_off21 (k0_t9 : Fin k0_t9_loop.trips) (c0_i32_86 : BitVec 32) : Fin 2 → Nat :=
  let c0_i32_50 : BitVec 32 := 0#32
  let c1_i32_52 : BitVec 32 := 1#32
  let arg20 : BitVec 32 := Scf.iv c0_i32_50 c1_i32_52 k0_t9
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c448_90 : Index := 448#32
  ![v50.toNat, 448]
@[reducible] def k0_t10_loop : Scf.Loop 32 :=
  let c0_i32_57 : BitVec 32 := 0#32
  let c4_i32_58 : BitVec 32 := 4#32
  let v30 : BitVec 32 := Scalar.addi c0_i32_57 c4_i32_58
  let c1_i32_59 : BitVec 32 := 1#32
  ⟨c0_i32_57, v30, c1_i32_59⟩
def k0_off22 (k0_t10 : Fin k0_t10_loop.trips) (c0_i32_86 : BitVec 32) : Fin 2 → Nat :=
  let c0_i32_57 : BitVec 32 := 0#32
  let c1_i32_59 : BitVec 32 := 1#32
  let arg20 : BitVec 32 := Scf.iv c0_i32_57 c1_i32_59 k0_t10
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c512_90 : Index := 512#32
  ![v50.toNat, 512]
@[reducible] def k0_t11_loop : Scf.Loop 32 :=
  let c0_i32_63 : BitVec 32 := 0#32
  let c4_i32_64 : BitVec 32 := 4#32
  let v33 : BitVec 32 := Scalar.addi c0_i32_63 c4_i32_64
  let c1_i32_65 : BitVec 32 := 1#32
  ⟨c0_i32_63, v33, c1_i32_65⟩
def k0_off23 (k0_t11 : Fin k0_t11_loop.trips) (c0_i32_86 : BitVec 32) : Fin 2 → Nat :=
  let c0_i32_63 : BitVec 32 := 0#32
  let c1_i32_65 : BitVec 32 := 1#32
  let arg20 : BitVec 32 := Scf.iv c0_i32_63 c1_i32_65 k0_t11
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c576_90 : Index := 576#32
  ![v50.toNat, 576]
@[reducible] def k0_t12_loop : Scf.Loop 32 :=
  let c0_i32_70 : BitVec 32 := 0#32
  let c4_i32_71 : BitVec 32 := 4#32
  let v36 : BitVec 32 := Scalar.addi c0_i32_70 c4_i32_71
  let c1_i32_72 : BitVec 32 := 1#32
  ⟨c0_i32_70, v36, c1_i32_72⟩
def k0_off24 (k0_t12 : Fin k0_t12_loop.trips) (c0_i32_86 : BitVec 32) : Fin 2 → Nat :=
  let c0_i32_70 : BitVec 32 := 0#32
  let c1_i32_72 : BitVec 32 := 1#32
  let arg20 : BitVec 32 := Scf.iv c0_i32_70 c1_i32_72 k0_t12
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c640_90 : Index := 640#32
  ![v50.toNat, 640]
@[reducible] def k0_t13_loop : Scf.Loop 32 :=
  let c0_i32_76 : BitVec 32 := 0#32
  let c4_i32_77 : BitVec 32 := 4#32
  let v39 : BitVec 32 := Scalar.addi c0_i32_76 c4_i32_77
  let c1_i32_78 : BitVec 32 := 1#32
  ⟨c0_i32_76, v39, c1_i32_78⟩
def k0_off25 (k0_t13 : Fin k0_t13_loop.trips) (c0_i32_86 : BitVec 32) : Fin 2 → Nat :=
  let c0_i32_76 : BitVec 32 := 0#32
  let c1_i32_78 : BitVec 32 := 1#32
  let arg20 : BitVec 32 := Scf.iv c0_i32_76 c1_i32_78 k0_t13
  let c2_i32 : BitVec 32 := 2#32
  let v44 : BitVec 32 := Scalar.muli arg20 c2_i32
  let v45 : BitVec 32 := Scalar.addi v44 c0_i32_86
  let c256_i32 : BitVec 32 := 256#32
  let v46 : BitVec 32 := Scalar.muli v45 c256_i32
  let v50 : Index := Scalar.indexCast v46
  let c704_90 : Index := 704#32
  ![v50.toNat, 704]
@[reducible] def k0_t14_loop : Scf.Loop 32 :=
  let c0_i32_82 : BitVec 32 := 0#32
  let c8_i32_83 : BitVec 32 := 8#32
  let v43 : BitVec 32 := Scalar.addi c0_i32_82 c8_i32_83
  let c1_i32_84 : BitVec 32 := 1#32
  ⟨c0_i32_82, v43, c1_i32_84⟩
def k0_off26 (k0_t14 : Fin k0_t14_loop.trips) : Fin 2 → Nat :=
  let c0_i32_82 : BitVec 32 := 0#32
  let c1_i32_84 : BitVec 32 := 1#32
  let arg20 : BitVec 32 := Scf.iv c0_i32_82 c1_i32_84 k0_t14
  let c256_i32 : BitVec 32 := 256#32
  let v44 : BitVec 32 := Scalar.muli arg20 c256_i32
  let v45 : Index := Scalar.indexCast v44
  let c0_86 : Index := 0#32
  ![v45.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_dim" => some ((1 / 768 : ℝ) : EReal)
  | "qscale" => some (((8 * (Real.log 2))⁻¹ : ℝ) : EReal)
  | _ => none
-- ==== ReferenceIdeal.lean ====
abbrev S1x2048x768 : Shape := ⟨3, ![1, 2048, 768]⟩
abbrev S2048x32x2 : Shape := ⟨3, ![2048, 32, 2]⟩
abbrev S8x768x768 : Shape := ⟨3, ![8, 768, 768]⟩
abbrev S8x768 : Shape := ⟨2, ![8, 768]⟩
abbrev S768x8 : Shape := ⟨2, ![768, 8]⟩
abbrev S8 : Shape := ⟨1, ![8]⟩
abbrev S1x2048x8 : Shape := ⟨3, ![1, 2048, 8]⟩
abbrev S1x1x8 : Shape := ⟨3, ![1, 1, 8]⟩
abbrev S_ : Shape := ⟨0, ![]⟩
abbrev S2048x32x1 : Shape := ⟨3, ![2048, 32, 1]⟩
abbrev S2048x32 : Shape := ⟨2, ![2048, 32]⟩
abbrev S1x2048x1x32 : Shape := ⟨4, ![1, 2048, 1, 32]⟩
abbrev S1x2048x8x768 : Shape := ⟨4, ![1, 2048, 8, 768]⟩
abbrev S8x1x2048 : Shape := ⟨3, ![8, 1, 2048]⟩
abbrev S8x1x2048x1 : Shape := ⟨4, ![8, 1, 2048, 1]⟩
abbrev S8x1x2048x768 : Shape := ⟨4, ![8, 1, 2048, 768]⟩
abbrev S8x1x1x768 : Shape := ⟨4, ![8, 1, 1, 768]⟩
abbrev S8x1x2048x12x64 : Shape := ⟨5, ![8, 1, 2048, 12, 64]⟩
abbrev S8x1x2048x12x32x2 : Shape := ⟨6, ![8, 1, 2048, 12, 32, 2]⟩
abbrev S8x1x2048x12x32x1 : Shape := ⟨6, ![8, 1, 2048, 12, 32, 1]⟩
abbrev S8x1x2048x12x32 : Shape := ⟨5, ![8, 1, 2048, 12, 32]⟩
abbrev S1x1x2048x1x32 : Shape := ⟨5, ![1, 1, 2048, 1, 32]⟩
abbrev S8x1x12x2048x64 : Shape := ⟨5, ![8, 1, 12, 2048, 64]⟩
abbrev S8x1x12x64x2048 : Shape := ⟨5, ![8, 1, 12, 64, 2048]⟩
abbrev S8x12x2048x64 : Shape := ⟨4, ![8, 12, 2048, 64]⟩
abbrev S8x12x64x2048 : Shape := ⟨4, ![8, 12, 64, 2048]⟩
abbrev S8x12x2048x2048 : Shape := ⟨4, ![8, 12, 2048, 2048]⟩
abbrev S8x1x12x2048x2048 : Shape := ⟨5, ![8, 1, 12, 2048, 2048]⟩
abbrev S8x1x12x2048 : Shape := ⟨4, ![8, 1, 12, 2048]⟩
abbrev S8x1x12x2048x1 : Shape := ⟨5, ![8, 1, 12, 2048, 1]⟩

abbrev nBuf : Space → Nat
  | .hbm => 185
  | .vmem => 0
  | .smem => 0
  | _ => 0

abbrev hbmTy0_0 (i : Nat) : BufTy := match i % 128 with
  | 0 => ⟨S1x2048x768, .f32⟩
  | 1 => ⟨S2048x32x2, .f32⟩
  | 2 => ⟨S8x768x768, .f32⟩
  | 3 => ⟨S8x768x768, .f32⟩
  | 4 => ⟨S8x768x768, .f32⟩
  | 5 => ⟨S8x768x768, .f32⟩
  | 6 => ⟨S8x768, .f32⟩
  | 7 => ⟨S8x768, .f32⟩
  | 8 => ⟨S8x768, .f32⟩
  | 9 => ⟨S8x768, .f32⟩
  | 10 => ⟨S768x8, .f32⟩
  | 11 => ⟨S8, .f32⟩
  | 12 => ⟨S1x2048x8, .f32⟩
  | 13 => ⟨S1x1x8, .f32⟩
  | 14 => ⟨S1x2048x8, .f32⟩
  | 15 => ⟨S1x2048x8, .f32⟩
  | 16 => ⟨S1x2048x8, .f32⟩
  | 17 => ⟨S1x2048x8, .f32⟩
  | 18 => ⟨S_, .f32⟩
  | 19 => ⟨S1x2048x8, .f32⟩
  | 20 => ⟨S1x2048x8, .f32⟩
  | 21 => ⟨S_, .f32⟩
  | 22 => ⟨S1x2048x8, .f32⟩
  | 23 => ⟨S1x2048x8, .f32⟩
  | 24 => ⟨S2048x32x1, .f32⟩
  | 25 => ⟨S2048x32, .f32⟩
  | 26 => ⟨S1x2048x1x32, .f32⟩
  | 27 => ⟨S2048x32x1, .f32⟩
  | 28 => ⟨S2048x32, .f32⟩
  | 29 => ⟨S1x2048x1x32, .f32⟩
  | 30 => ⟨S1x2048x8x768, .f32⟩
  | 31 => ⟨S_, .f32⟩
  | 32 => ⟨S1x2048x8, .f32⟩
  | 33 => ⟨S8x1x2048, .f32⟩
  | 34 => ⟨S8x1x2048x1, .f32⟩
  | 35 => ⟨S_, .f32⟩
  | 36 => ⟨S8x1x2048x1, .f32⟩
  | 37 => ⟨S8x1x2048x1, .f32⟩
  | 38 => ⟨S8x1x2048x768, .f32⟩
  | 39 => ⟨S8x1x2048x768, .f32⟩
  | 40 => ⟨S8x1x2048x768, .f32⟩
  | 41 => ⟨S8x1x2048x768, .f32⟩
  | 42 => ⟨S_, .f32⟩
  | 43 => ⟨S8x1x2048, .f32⟩
  | 44 => ⟨S8x1x2048x1, .f32⟩
  | 45 => ⟨S_, .f32⟩
  | 46 => ⟨S8x1x2048x1, .f32⟩
  | 47 => ⟨S8x1x2048x1, .f32⟩
  | 48 => ⟨S8x1x2048x768, .f32⟩
  | 49 => ⟨S8x1x2048x768, .f32⟩
  | 50 => ⟨S8x1x2048x768, .f32⟩
  | 51 => ⟨S_, .f32⟩
  | 52 => ⟨S8x1x2048x1, .f32⟩
  | 53 => ⟨S8x1x2048x1, .f32⟩
  | 54 => ⟨S8x1x2048x1, .f32⟩
  | 55 => ⟨S8x1x2048x768, .f32⟩
  | 56 => ⟨S8x1x2048x768, .f32⟩
  | 57 => ⟨S8x1x1x768, .f32⟩
  | 58 => ⟨S8x1x2048x768, .f32⟩
  | 59 => ⟨S8x1x2048x768, .f32⟩
  | 60 => ⟨S8x1x1x768, .f32⟩
  | 61 => ⟨S8x1x2048x768, .f32⟩
  | 62 => ⟨S8x1x2048x768, .f32⟩
  | 63 => ⟨S1x2048x8x768, .f32⟩
  | 64 => ⟨S_, .f32⟩
  | 65 => ⟨S1x2048x8, .f32⟩
  | 66 => ⟨S8x1x2048, .f32⟩
  | 67 => ⟨S8x1x2048x1, .f32⟩
  | 68 => ⟨S_, .f32⟩
  | 69 => ⟨S8x1x2048x1, .f32⟩
  | 70 => ⟨S8x1x2048x1, .f32⟩
  | 71 => ⟨S8x1x2048x768, .f32⟩
  | 72 => ⟨S8x1x2048x768, .f32⟩
  | 73 => ⟨S8x1x2048x768, .f32⟩
  | 74 => ⟨S8x1x2048x768, .f32⟩
  | 75 => ⟨S_, .f32⟩
  | 76 => ⟨S8x1x2048, .f32⟩
  | 77 => ⟨S8x1x2048x1, .f32⟩
  | 78 => ⟨S_, .f32⟩
  | 79 => ⟨S8x1x2048x1, .f32⟩
  | 80 => ⟨S8x1x2048x1, .f32⟩
  | 81 => ⟨S8x1x2048x768, .f32⟩
  | 82 => ⟨S8x1x2048x768, .f32⟩
  | 83 => ⟨S8x1x2048x768, .f32⟩
  | 84 => ⟨S_, .f32⟩
  | 85 => ⟨S8x1x2048x1, .f32⟩
  | 86 => ⟨S8x1x2048x1, .f32⟩
  | 87 => ⟨S8x1x2048x1, .f32⟩
  | 88 => ⟨S8x1x2048x768, .f32⟩
  | 89 => ⟨S8x1x2048x768, .f32⟩
  | 90 => ⟨S8x1x1x768, .f32⟩
  | 91 => ⟨S8x1x2048x768, .f32⟩
  | 92 => ⟨S8x1x2048x768, .f32⟩
  | 93 => ⟨S8x1x1x768, .f32⟩
  | 94 => ⟨S8x1x2048x768, .f32⟩
  | 95 => ⟨S8x1x2048x768, .f32⟩
  | 96 => ⟨S1x2048x8x768, .f32⟩
  | 97 => ⟨S8x1x2048x768, .f32⟩
  | 98 => ⟨S8x1x2048x12x64, .f32⟩
  | 99 => ⟨S8x1x2048x12x64, .f32⟩
  | 100 => ⟨S8x1x2048x12x32x2, .f32⟩
  | 101 => ⟨S8x1x2048x12x32x1, .f32⟩
  | 102 => ⟨S8x1x2048x12x32, .f32⟩
  | 103 => ⟨S8x1x2048x12x32x1, .f32⟩
  | 104 => ⟨S8x1x2048x12x32, .f32⟩
  | 105 => ⟨S1x1x2048x1x32, .f32⟩
  | 106 => ⟨S8x1x2048x12x32, .f32⟩
  | 107 => ⟨S8x1x2048x12x32, .f32⟩
  | 108 => ⟨S1x1x2048x1x32, .f32⟩
  | 109 => ⟨S8x1x2048x12x32, .f32⟩
  | 110 => ⟨S8x1x2048x12x32, .f32⟩
  | 111 => ⟨S8x1x2048x12x32, .f32⟩
  | 112 => ⟨S1x1x2048x1x32, .f32⟩
  | 113 => ⟨S8x1x2048x12x32, .f32⟩
  | 114 => ⟨S8x1x2048x12x32, .f32⟩
  | 115 => ⟨S1x1x2048x1x32, .f32⟩
  | 116 => ⟨S8x1x2048x12x32, .f32⟩
  | 117 => ⟨S8x1x2048x12x32, .f32⟩
  | 118 => ⟨S8x1x2048x12x32, .f32⟩
  | 119 => ⟨S8x1x2048x12x32x1, .f32⟩
  | 120 => ⟨S8x1x2048x12x32x1, .f32⟩
  | 121 => ⟨S8x1x2048x12x32x2, .f32⟩
  | 122 => ⟨S8x1x2048x12x64, .f32⟩
  | 123 => ⟨S8x1x2048x12x64, .f32⟩
  | 124 => ⟨S8x1x2048x12x32x2, .f32⟩
  | 125 => ⟨S8x1x2048x12x32x1, .f32⟩
  | 126 => ⟨S8x1x2048x12x32, .f32⟩
  | 127 => ⟨S8x1x2048x12x32x1, .f32⟩
  | _ => ⟨S1x2048x768, .f32⟩

abbrev hbmTy0_1 (i : Nat) : BufTy := match i % 128 with
  | 0 => ⟨S8x1x2048x12x32, .f32⟩
  | 1 => ⟨S1x1x2048x1x32, .f32⟩
  | 2 => ⟨S8x1x2048x12x32, .f32⟩
  | 3 => ⟨S8x1x2048x12x32, .f32⟩
  | 4 => ⟨S1x1x2048x1x32, .f32⟩
  | 5 => ⟨S8x1x2048x12x32, .f32⟩
  | 6 => ⟨S8x1x2048x12x32, .f32⟩
  | 7 => ⟨S8x1x2048x12x32, .f32⟩
  | 8 => ⟨S1x1x2048x1x32, .f32⟩
  | 9 => ⟨S8x1x2048x12x32, .f32⟩
  | 10 => ⟨S8x1x2048x12x32, .f32⟩
  | 11 => ⟨S1x1x2048x1x32, .f32⟩
  | 12 => ⟨S8x1x2048x12x32, .f32⟩
  | 13 => ⟨S8x1x2048x12x32, .f32⟩
  | 14 => ⟨S8x1x2048x12x32, .f32⟩
  | 15 => ⟨S8x1x2048x12x32x1, .f32⟩
  | 16 => ⟨S8x1x2048x12x32x1, .f32⟩
  | 17 => ⟨S8x1x2048x12x32x2, .f32⟩
  | 18 => ⟨S8x1x2048x12x64, .f32⟩
  | 19 => ⟨S8x1x12x2048x64, .f32⟩
  | 20 => ⟨S8x1x12x2048x64, .f32⟩
  | 21 => ⟨S8x1x12x2048x64, .f32⟩
  | 22 => ⟨S8x1x12x64x2048, .f32⟩
  | 23 => ⟨S8x12x2048x64, .f32⟩
  | 24 => ⟨S8x12x64x2048, .f32⟩
  | 25 => ⟨S8x12x2048x2048, .f32⟩
  | 26 => ⟨S8x1x12x2048x2048, .f32⟩
  | 27 => ⟨S_, .f32⟩
  | 28 => ⟨S8x1x12x2048x2048, .f32⟩
  | 29 => ⟨S8x1x12x2048x2048, .f32⟩
  | 30 => ⟨S_, .f32⟩
  | 31 => ⟨S8x1x12x2048, .f32⟩
  | 32 => ⟨S_, .f32⟩
  | 33 => ⟨S8x1x12x2048, .f32⟩
  | 34 => ⟨S8x1x12x2048, .f32⟩
  | 35 => ⟨S8x1x12x2048x1, .f32⟩
  | 36 => ⟨S8x1x12x2048x2048, .f32⟩
  | 37 => ⟨S8x1x12x2048x2048, .f32⟩
  | 38 => ⟨S8x1x12x2048x2048, .f32⟩
  | 39 => ⟨S_, .f32⟩
  | 40 => ⟨S8x1x12x2048, .f32⟩
  | 41 => ⟨S8x1x12x2048x1, .f32⟩
  | 42 => ⟨S8x1x12x2048x2048, .f32⟩
  | 43 => ⟨S8x1x12x2048x2048, .f32⟩
  | 44 => ⟨S8x12x2048x2048, .f32⟩
  | 45 => ⟨S8x12x2048x64, .f32⟩
  | 46 => ⟨S8x12x2048x64, .f32⟩
  | 47 => ⟨S8x1x12x2048x64, .f32⟩
  | 48 => ⟨S8x1x2048x12x64, .f32⟩
  | 49 => ⟨S8x1x2048x768, .f32⟩
  | 50 => ⟨S8x1x2048x768, .f32⟩
  | 51 => ⟨S8x1x2048, .f32⟩
  | 52 => ⟨S8x1x2048x1, .f32⟩
  | 53 => ⟨S8x1x2048x768, .f32⟩
  | 54 => ⟨S8x1x2048x768, .f32⟩
  | 55 => ⟨S_, .f32⟩
  | 56 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_11 : Ref sig .tc := ⟨.hbm, 155, rfl⟩
abbrev main_v131 : Ref sig .tc := ⟨.hbm, 156, rfl⟩
abbrev main_v132 : Ref sig .tc := ⟨.hbm, 157, rfl⟩
abbrev main_cst_12 : Ref sig .tc := ⟨.hbm, 158, rfl⟩
abbrev main_v133 : Ref sig .tc := ⟨.hbm, 159, rfl⟩
abbrev main_cst_13 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_14 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_cst_15 : Ref sig .tc := ⟨.hbm, 183, rfl⟩
abbrev main_v155 : Ref sig .tc := ⟨.hbm, 184, rfl⟩

abbrev nD : Nat := 1
abbrev τ : Topo := Topo.v7x

variable {F : FTy → Type} [FloatOps F]
-- ==== Proof.Printed.lean ====
/-
The printed kernel, run over any values: it ends, leaves its arguments as they were and every semaphore at zero. Nothing is
said of what it computes: the output's buffer and the scratch buffers hold anything between the points.
-/
module

public import proofs.«01_k».proof.Proof.Gen.Kernel.Frame.Runs
public import Idealize.ShloMosaic.Lib.Claim

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One grid point -/

set_option maxHeartbeats 8000000 in
/-- The body at the first point, where both conditions hold, and at the others, where neither does: it reads its inputs and
    gives back the output's buffer and the scratch at some contents. -/
theorem body (c : Dev nD) (i : grid0.Coords) (arg1 : Memref sig .tc .vmem S2048x768 .bf16) (harg1 : arg1.IsWhole)
    (arg2 : Memref sig .tc .vmem S2048x768 .bf16) (harg2 : arg2.IsWhole) (arg3 : Memref sig .tc .vmem S768x8 .bf16) (harg3 :
    arg3.IsWhole) (arg4 : Memref sig .tc .vmem S1x8 .f32) (harg4 : arg4.IsWhole) (arg5 : Memref sig .tc .vmem S1x768x768 .bf16)
    (harg5 : arg5.IsWhole) (arg6 : Memref sig .tc .vmem S1x768x768 .bf16) (harg6 : arg6.IsWhole)
    (arg7 : Memref sig .tc .vmem S1x768x768 .bf16) (harg7 : arg7.IsWhole) (arg8 : Memref sig .tc .vmem S1x768x768 .bf16) (harg8 :
    arg8.IsWhole) (arg9 : Memref sig .tc .vmem S1x1x768 .f32) (harg9 : arg9.IsWhole) (arg10 : Memref sig .tc .vmem S1x1x768 .f32)
    (harg10 : arg10.IsWhole) (arg11 : Memref sig .tc .vmem S1x1x768 .f32) (harg11 : arg11.IsWhole)
    (arg12 : Memref sig .tc .vmem S1x1x768 .f32) (harg12 : arg12.IsWhole) (arg13 : Memref sig .tc .vmem S2048x768 .f32) (harg13 :
    arg13.IsWhole) (arg14 : Memref sig .tc .vmem S2048x768 .bf16) (harg14 : arg14.IsWhole)
    (arg15 : Memref sig .tc .vmem S2048x768 .bf16) (harg15 : arg15.IsWhole) (arg16 : Memref sig .tc .vmem S2048x1536 .bf16)
    (harg16 : arg16.IsWhole) (arg17 : Memref sig .tc .vmem S2048x768 .bf16) (harg17 : arg17.IsWhole)
    (arg18 : Memref sig .tc .vmem S2048x768 .bf16) (harg18 : arg18.IsWhole) (arg19 : Memref sig .tc .vmem S2048x768 .bf16) (harg19 :
    arg19.IsWhole)
    (h : (cond0_0 i ∧ cond0_1 i) ∨ (¬cond0_0 i ∧ ¬cond0_1 i))
    (x0 : Vec F S2048x768 .bf16) (x1 : Vec F S2048x768 .bf16) (x2 : Vec F S768x8 .bf16) (x3 : Vec F S1x8 .f32)
    (x4 : Vec F S1x768x768 .bf16) (x5 : Vec F S1x768x768 .bf16) (x6 : Vec F S1x768x768 .bf16) (x7 : Vec F S1x768x768 .bf16)
    (x8 : Vec F S1x1x768 .f32) (x9 : Vec F S1x1x768 .f32) (x10 : Vec F S1x1x768 .f32) (x11 : Vec F S1x1x768 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ owns (c : Thread nD τ) arg8 fullShare x7 ∗ owns (c : Thread nD τ) arg9 fullShare x8
      ∗ owns (c : Thread nD τ) arg10 fullShare x9 ∗ owns (c : Thread nD τ) arg11 fullShare x10 ∗ owns (c : Thread nD τ)
      arg12 fullShare x11
      ∗ (∃ d, owns (c : Thread nD τ) arg13 fullShare d) ∗ (∃ d, owns (c : Thread nD τ) arg14 fullShare d) ∗ (∃ d, owns (c : Thread nD τ)
      arg15 fullShare d) ∗ (∃ d, owns (c : Thread nD τ) arg16 fullShare d) ∗ (∃ d, owns (c : Thread nD τ) arg17 fullShare d) ∗
      (∃ d, owns (c : Thread nD τ) arg18 fullShare d) ∗ (∃ d, owns (c : Thread nD τ) arg19 fullShare d)
      ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ)
        arg12 fullShare x11
        ∗ (∃ d, owns (c : Thread nD τ) arg13 fullShare d) ∗ (∃ d, owns (c : Thread nD τ) arg14 fullShare d) ∗ (∃ d, owns (c : Thread nD τ)
        arg15 fullShare d) ∗ (∃ d, owns (c : Thread nD τ) arg16 fullShare d) ∗ (∃ d, owns (c : Thread nD τ) arg17 fullShare d) ∗
        (∃ d, owns (c : Thread nD τ) arg18 fullShare d) ∗ (∃ d, owns (c : Thread nD τ) arg19 fullShare d)) -∗ K ⟨⟩))
    ⊢ wp frame (wpE (defs₀ (F := F)) Variants.none c none) E (cc0__moe_attn_kernel i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19) K := by
  rcases h with ⟨hc0, hc1⟩ | ⟨hc0, hc1⟩
  all_goals
    simp only [cc0__moe_attn_kernel_eq_skeleton]; unfold cc0__moe_attn_kernel_skel
    simp only [k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-! ## What the launch says of the buffers -/

variable (m : (ℓ : Loc nD τ sig) → Buf (Elt F) ℓ) (ρ : Dev nD → PrngReg)

/-- The buffer that the line after the region writes. -/
def written : Finset (Ref sig .tc) := {main_v52}

theorem written_after : ∀ ops ∈ ([hostOps1] : List (List (HloOp τ sig (Elt F)))), ∀ op ∈ ops,
    ∀ b : Ref sig .tc, Proc.devRef .tc b ∈ op.writes → b ∈ written := by
  intro ops hops op hop
  obtain rfl := List.mem_singleton.mp hops
  simp only [hostOps1, List.mem_cons, List.mem_nil_iff, or_false] at hop
  rcases hop with rfl
  intro b hb
  simp only [StableHlo.nullary_writes, StableHlo.unary_writes, StableHlo.binary_writes, StableHlo.ternary_writes,
    StableHlo.quaternary_writes, StableHlo.reshape_writes, StableHlo.binaryIndexed_writes, Finset.mem_singleton] at hb
  cases Proc.devRef_injective _ hb
  decide

/-- The window of which nothing is said: the output's. -/
def unsaid : Fin 13 → Bool := fun w => w.val == 12

/-- The inputs' buffers hold their blocks after each point; the output's and the scratch hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have b0 : ∀ d, (dats m 0 c).before 0 t d = iblk m c 0 t := before0_0_of m (dats m 0 c) (A_eq m c 0) (fun t => by dsimp only [dats]) t
  have b1 : ∀ d, (dats m 0 c).before 1 t d = iblk m c 1 t := before0_1_of m (dats m 0 c) (A_eq m c 1) (fun t => by dsimp only [dats]) t
  have b2 : ∀ d, (dats m 0 c).before 2 t d = iblk m c 2 t := before0_2_of m (dats m 0 c) (A_eq m c 2) (fun t => by dsimp only [dats]) t
  have b3 : ∀ d, (dats m 0 c).before 3 t d = iblk m c 3 t := before0_3_of m (dats m 0 c) (A_eq m c 3) (fun t => by dsimp only [dats]) t
  have b4 : ∀ d, (dats m 0 c).before 4 t d = iblk m c 4 t := before0_4_of m (dats m 0 c) (A_eq m c 4) (fun t => by dsimp only [dats]) t
  have b5 : ∀ d, (dats m 0 c).before 5 t d = iblk m c 5 t := before0_5_of m (dats m 0 c) (A_eq m c 5) (fun t => by dsimp only [dats]) t
  have b6 : ∀ d, (dats m 0 c).before 6 t d = iblk m c 6 t := before0_6_of m (dats m 0 c) (A_eq m c 6) (fun t => by dsimp only [dats]) t
  have b7 : ∀ d, (dats m 0 c).before 7 t d = iblk m c 7 t := before0_7_of m (dats m 0 c) (A_eq m c 7) (fun t => by dsimp only [dats]) t
  have b8 : ∀ d, (dats m 0 c).before 8 t d = iblk m c 8 t := before0_8_of m (dats m 0 c) (A_eq m c 8) (fun t => by dsimp only [dats]) t
  have b9 : ∀ d, (dats m 0 c).before 9 t d = iblk m c 9 t := before0_9_of m (dats m 0 c) (A_eq m c 9) (fun t => by dsimp only [dats]) t
  have b10 : ∀ d, (dats m 0 c).before 10 t d = iblk m c 10 t := before0_10_of m (dats m 0 c) (A_eq m c 10) (fun t => by dsimp only [dats]) t
  have b11 : ∀ d, (dats m 0 c).before 11 t d = iblk m c 11 t := before0_11_of m (dats m 0 c) (A_eq m c 11) (fun t => by dsimp only [dats]) t
  have a0 : (dats m 0 c).after 0 t = iblk m c 0 t := by dsimp only [dats]
  have a1 : (dats m 0 c).after 1 t = iblk m c 1 t := by dsimp only [dats]
  have a2 : (dats m 0 c).after 2 t = iblk m c 2 t := by dsimp only [dats]
  have a3 : (dats m 0 c).after 3 t = iblk m c 3 t := by dsimp only [dats]
  have a4 : (dats m 0 c).after 4 t = iblk m c 4 t := by dsimp only [dats]
  have a5 : (dats m 0 c).after 5 t = iblk m c 5 t := by dsimp only [dats]
  have a6 : (dats m 0 c).after 6 t = iblk m c 6 t := by dsimp only [dats]
  have a7 : (dats m 0 c).after 7 t = iblk m c 7 t := by dsimp only [dats]
  have a8 : (dats m 0 c).after 8 t = iblk m c 8 t := by dsimp only [dats]
  have a9 : (dats m 0 c).after 9 t = iblk m c 9 t := by dsimp only [dats]
  have a10 : (dats m 0 c).after 10 t = iblk m c 10 t := by dsimp only [dats]
  have a11 : (dats m 0 c).after 11 t = iblk m c 11 t := by dsimp only [dats]
  have hc : (cond0_0 (grid0.coords t) ∧ cond0_1 (grid0.coords t)) ∨ (¬cond0_0 (grid0.coords t) ∧ ¬cond0_1 (grid0.coords t)) := by
    by_cases h : t.val % 8 = 0
    · exact Or.inl ⟨(hcond0_0 t).mpr h, (hcond0_1 t).mpr h⟩
    · exact Or.inr ⟨fun h0 => h ((hcond0_0 t).mp h0), fun h1 => h ((hcond0_1 t).mp h1)⟩
  unfold bodyPre bodyPost bodyAt0
  simp only [b0, b1, b2, b3, b4, b5, b6, b7, b8, b9, b10, b11]
  rw [show (dats m 0 c).owesAt () t.succ = (dats m 0 c).owesAt () t.castSucc from rfl,
    a0, a1, a2, a3, a4, a5, a6, a7, a8, a9, a10, a11]
  rw [show (dats m 0 c).Φ t.succ = Pipeline.ΦA spec0 c from rfl, show (dats m 0 c).Φ t.castSucc = Pipeline.ΦA spec0 c from rfl, PhiA0_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  iapply (body c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
set_option maxHeartbeats 800000 in
/-- The whole program's run: what the region does not use and no later line writes ends as the region found it, and every
    semaphore at zero. -/
theorem run_main : θ_run defs (onTc (τ := τ) (main (F := F))) (s₀ m ρ) (fun r =>
    (Pipeline.RDat.FramePostR (cfgs 0) (fun c => (dats m 0 c).toRForget unsaid) written (V m)) r ∧ r.2.sem = fun _ => 0) :=
  Pipeline.θ_run_frame_around_T_track_forget (Q' := _) cfgs (dats m) (0 : Fin 1) launch0 defs₀ Variants.none unsaid written m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := written_after) (hmain := hmain m Variants.none) (hA := A_eq m) (hin := fun c => Idealize.SL.BI.Entails.refl _)
    (hout := fun c => Idealize.SL.BI.Entails.refl _)

/-- The arguments end unchanged and every semaphore at zero. -/
theorem frame_printed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c)⟩, h.2⟩)
    (run_main m ρ)

end Cert.Kernel.Printed

end
-- ==== Proof.Maths.lean ====
/-
The arithmetic on the extended reals that the equality of kernel and reference rests on: a layer normalisation computed
from the mean of the squares against one computed from the squared deviations, a rotation of de-interleaved lanes
against one of interleaved lanes, and a softmax in base two, normalised after the product with the values, against one
in base e, normalised before it. Nothing here mentions a program.
-/
module

public import Idealize.ShloMosaic.PureOps.Ideal
public import Idealize.ShloMosaic.PureOps.Ideal.Laws

@[expose] public section

noncomputable section

namespace Cert.KernelIdeal.Maths

open Idealize.ShloMosaic

/-! ## Real-valued extended reals -/

/-- The extended real is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem isReal_of_lt_top {x : EReal} (h : max x (-x) < ⊤) : IsReal x := by
  have h1 : x ≠ ⊤ := fun e => by rw [e] at h; simp at h
  have h2 : x ≠ ⊥ := fun e => by rw [e] at h; simp at h
  exact ⟨x.toReal, (EReal.coe_toReal h1 h2).symm⟩

theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem div_coe (x : EReal) {y : ℝ} (h : y ≠ 0) : Ideal.div x (y : EReal) = x * ((y⁻¹ : ℝ) : EReal) := by
  have h' : (y : EReal) ≠ 0 := by exact_mod_cast h
  unfold Ideal.div
  rw [if_neg h', EReal.coe_inv]

/-! ## The numbers the programs write -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee]
  rw [← EReal.coe_mul, ← EReal.coe_one]; norm_num
theorem ofBits_768 : Ideal.ofBits .f32 0x44400000#32 = ((768 : ℝ) : EReal) := by
  simp [Ideal.ofBits, Ideal.ieee]
  rw [← EReal.coe_mul]; norm_num
theorem ofBits_8 : Ideal.ofBits .f32 0x41000000#32 = ((8 : ℝ) : EReal) := by
  simp [Ideal.ofBits, Ideal.ieee]
  rw [← EReal.coe_mul]; norm_num
theorem ofBits_neg_top : Ideal.ofBits .f32 0xFF800000#32 = ⊥ := by
  simp [Ideal.ofBits, Ideal.ieee]
theorem ofBits_top : Ideal.ofBits .f32 0x7F800000#32 = ⊤ := by
  simp [Ideal.ofBits, Ideal.ieee]
theorem ofBits_eps : ∃ r : ℝ, 0 < r ∧ Ideal.ofBits .f32 0x3727C5AC#32 = (r : EReal) := by
  refine ⟨10995116 * (1 / 1099511627776), by norm_num, ?_⟩
  simp [Ideal.ofBits, Ideal.ieee]
  rw [← EReal.coe_mul]
  congr 1
  norm_num

theorem sqrt_coe {r : ℝ} (h : 0 < r) : Ideal.sqrt (r : EReal) = ((Real.sqrt r : ℝ) : EReal) := by
  show (if r < 0 then ⊥ else (Real.sqrt r : EReal)) = _
  rw [if_neg (not_lt.2 h.le)]

theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 h.le), if_neg h.ne']

/-! ## Layer normalisation -/

/-- The mean of a row. -/
def meanRef (p : Fin 768 → EReal) : EReal := Ideal.div (∑ x, p x) ((768 : ℝ) : EReal)

/-- The variance of a row with the small number added, from the squared deviations. -/
def varRef (p : Fin 768 → EReal) : EReal :=
  Ideal.div (∑ x, (p x - meanRef p) * (p x - meanRef p)) ((768 : ℝ) : EReal) + Ideal.ofBits .f32 0x3727C5AC#32

/-- A row normalised, then scaled and shifted. -/
def lnRef (p g b : Fin 768 → EReal) (c : Fin 768) : EReal :=
  Ideal.div (p c - meanRef p) (Ideal.sqrt (varRef p)) * g c + b c

theorem meanRef_coe (p : Fin 768 → ℝ) :
    meanRef (fun c => (p c : EReal)) = (((∑ x, p x) * 768⁻¹ : ℝ) : EReal) := by
  unfold meanRef
  rw [coe_sum, div_coe _ (by norm_num), EReal.coe_mul]

theorem varRef_coe (p : Fin 768 → ℝ) {ε : ℝ} (hε : Ideal.ofBits .f32 0x3727C5AC#32 = (ε : EReal)) :
    varRef (fun c => (p c : EReal))
      = (((∑ x, (p x - (∑ x, p x) * 768⁻¹) * (p x - (∑ x, p x) * 768⁻¹)) * 768⁻¹ + ε : ℝ) : EReal) := by
  unfold varRef
  rw [meanRef_coe, hε]
  simp only [← EReal.coe_sub, ← EReal.coe_mul]
  rw [coe_sum, div_coe _ (by norm_num), ← EReal.coe_mul, ← EReal.coe_add]

/-- The mean of the squares less the square of the mean is the mean of the squared deviations. -/
theorem var_real (p : Fin 768 → ℝ) :
    (∑ x, (p x - (∑ x, p x) * 768⁻¹) * (p x - (∑ x, p x) * 768⁻¹)) * 768⁻¹
      = (∑ x, p x * p x) * 768⁻¹ - (∑ x, p x) * 768⁻¹ * ((∑ x, p x) * 768⁻¹) := by
  set μ : ℝ := (∑ x, p x) * 768⁻¹ with hμ
  have h1 : ∑ x : Fin 768, (p x - μ) * (p x - μ) = (∑ x, p x * p x) - 2 * μ * (∑ x, p x) + 768 * (μ * μ) := by
    have : ∀ x, (p x - μ) * (p x - μ) = p x * p x - 2 * μ * p x + μ * μ := fun x => by ring
    simp only [this, Finset.sum_add_distrib, Finset.sum_sub_distrib, ← Finset.mul_sum]
    simp
    ring
  have h2 : (∑ x, p x) = 768 * μ := by rw [hμ]; ring
  rw [h1, h2]; ring

theorem var_nonneg (p : Fin 768 → ℝ) (μ : ℝ) : 0 ≤ (∑ x, (p x - μ) * (p x - μ)) * (768⁻¹ : ℝ) :=
  mul_nonneg (Finset.sum_nonneg fun x _ => mul_self_nonneg _) (by norm_num)

/-- The kernel's normalisation, by the product with the reciprocal root, is the reference's. -/
theorem ln_eq (p : Fin 768 → EReal) (hp : ∀ c, IsReal (p c)) (c : Fin 768) :
    (p c - (∑ x, p x) * ((1 / 768 : ℝ) : EReal))
        * Ideal.rsqrt ((∑ x, p x * p x) * ((1 / 768 : ℝ) : EReal)
          - (∑ x, p x) * ((1 / 768 : ℝ) : EReal) * ((∑ x, p x) * ((1 / 768 : ℝ) : EReal))
          + Ideal.ofBits .f32 0x3727C5AC#32)
      = Ideal.div (p c - meanRef p) (Ideal.sqrt (varRef p)) := by
  choose q hq using hp
  obtain rfl : p = fun c => (q c : EReal) := funext hq
  obtain ⟨ε, hε0, hε⟩ := ofBits_eps
  have e1 : (1 / 768 : ℝ) = 768⁻¹ := by norm_num
  rw [meanRef_coe, varRef_coe q hε, var_real, hε, e1]
  have hpos : 0 < (∑ x, q x * q x) * 768⁻¹ - (∑ x, q x) * 768⁻¹ * ((∑ x, q x) * 768⁻¹) + ε := by
    rw [← var_real]; exact add_pos_of_nonneg_of_pos (var_nonneg q _) hε0
  simp only [← EReal.coe_mul]
  rw [coe_sum, coe_sum]
  simp only [← EReal.coe_mul, ← EReal.coe_sub, ← EReal.coe_add]
  rw [rsqrt_coe hpos, sqrt_coe hpos, div_coe _ (Real.sqrt_ne_zero'.2 hpos)]

theorem lnRef_isReal (p g b : Fin 768 → EReal) (hp : ∀ c, IsReal (p c)) (hg : ∀ c, IsReal (g c))
    (hb : ∀ c, IsReal (b c)) (c : Fin 768) : IsReal (lnRef p g b c) := by
  choose q hq using hp
  obtain rfl : p = fun c => (q c : EReal) := funext hq
  obtain ⟨ε, hε0, hε⟩ := ofBits_eps
  have hpos : 0 < (∑ x, (q x - (∑ x, q x) * 768⁻¹) * (q x - (∑ x, q x) * 768⁻¹)) * 768⁻¹ + ε :=
    add_pos_of_nonneg_of_pos (var_nonneg q _) hε0
  unfold lnRef
  refine IsReal.add (IsReal.mul ?_ (hg c)) (hb c)
  rw [meanRef_coe, varRef_coe q hε]
  rw [sqrt_coe hpos, div_coe _ (Real.sqrt_ne_zero'.2 hpos)]
  exact IsReal.mul (IsReal.sub (IsReal.coe _) (IsReal.coe _)) (IsReal.coe _)

/-! ## The order of the lanes -/

/-- The lane of the interleaved order that lane `c` of the de-interleaved order holds: within each head of 64 lanes, the
    even lanes first, the odd lanes after them. -/
def permIx (c : Fin 768) : Fin 768 :=
  ⟨64 * (c.val / 64) + (if c.val % 64 < 32 then 2 * (c.val % 64) else 2 * (c.val % 64 - 32) + 1), by
    have := c.isLt; split <;> omega⟩

/-- The same within one head. -/
def halfIx (c : Fin 64) : Fin 64 :=
  ⟨if c.val < 32 then 2 * c.val else 2 * (c.val - 32) + 1, by have := c.isLt; split <;> omega⟩

theorem permIx_injective : Function.Injective permIx := fun a b h => by
  have h' := congrArg Fin.val h
  unfold permIx at h'
  have := a.isLt; have := b.isLt
  apply Fin.ext
  dsimp only at h'
  split at h' <;> split at h' <;> omega

theorem halfIx_injective : Function.Injective halfIx := fun a b h => by
  have h' := congrArg Fin.val h
  unfold halfIx at h'
  have := a.isLt; have := b.isLt
  apply Fin.ext
  dsimp only at h'
  split at h' <;> split at h' <;> omega

theorem sum_permIx (f : Fin 768 → EReal) : ∑ c, f (permIx c) = ∑ c, f c :=
  (Equiv.ofBijective permIx (Finite.injective_iff_bijective.mp permIx_injective)).sum_comp f

theorem sum_halfIx (f : Fin 64 → EReal) : ∑ c, f (halfIx c) = ∑ c, f c :=
  (Equiv.ofBijective halfIx (Finite.injective_iff_bijective.mp halfIx_injective)).sum_comp f

/-- Lane `c` of head `h`. -/
def lane (h : Fin 12) (c : Fin 64) : Fin 768 := ⟨64 * h.val + c.val, by omega⟩

theorem permIx_lane (h : Fin 12) (c : Fin 64) : permIx (lane h c) = lane h (halfIx c) := by
  apply Fin.ext
  unfold permIx lane halfIx
  have := c.isLt
  dsimp only
  have e1 : (64 * h.val + c.val) / 64 = h.val := by omega
  have e2 : (64 * h.val + c.val) % 64 = c.val := by omega
  rw [e1, e2]

/-! ## The rotation -/

/-- A row rotated pair by pair: `co` and `si` are the cosines and sines of the 32 pairs of a head. -/
def rotRef (p : Fin 768 → EReal) (co si : Fin 32 → EReal) (n : Fin 768) : EReal :=
  if h : n.val % 2 = 0 then
    p n * co ⟨n.val % 64 / 2, by omega⟩ - p ⟨n.val + 1, by omega⟩ * si ⟨n.val % 64 / 2, by omega⟩
  else
    p ⟨n.val - 1, by omega⟩ * si ⟨n.val % 64 / 2, by omega⟩ + p n * co ⟨n.val % 64 / 2, by omega⟩

theorem rotRef_isReal (p : Fin 768 → EReal) (co si : Fin 32 → EReal) (hp : ∀ c, IsReal (p c)) (hc : ∀ c, IsReal (co c))
    (hs : ∀ c, IsReal (si c)) (n : Fin 768) : IsReal (rotRef p co si n) := by
  unfold rotRef
  split
  · exact IsReal.sub (IsReal.mul (hp _) (hc _)) (IsReal.mul (hp _) (hs _))
  · exact IsReal.add (IsReal.mul (hp _) (hs _)) (IsReal.mul (hp _) (hc _))

theorem rotRef_lo (p : Fin 768 → EReal) (co si : Fin 32 → EReal) (c : Fin 768) (h : c.val % 64 < 32) :
    rotRef p co si (permIx c)
      = p (permIx c) * co ⟨c.val % 64, h⟩ + p (permIx ⟨c.val + 32, by omega⟩) * (0 - si ⟨c.val % 64, h⟩) := by
  have hv : (permIx c).val = 64 * (c.val / 64) + 2 * (c.val % 64) := by unfold permIx; dsimp only; rw [if_pos h]
  have hn : permIx ⟨c.val + 32, by omega⟩ = ⟨(permIx c).val + 1, by omega⟩ := by
    apply Fin.ext; dsimp only; rw [hv]; unfold permIx; dsimp only
    rw [if_neg (by omega)]; omega
  have hj : (⟨(permIx c).val % 64 / 2, by omega⟩ : Fin 32) = ⟨c.val % 64, h⟩ := by
    apply Fin.ext; dsimp only; rw [hv]; omega
  unfold rotRef
  rw [dif_pos (by rw [hv]; omega), hj, hn, sub_eq_add_neg, sub_eq_add_neg, zero_add, mul_neg]

theorem rotRef_hi (p : Fin 768 → EReal) (co si : Fin 32 → EReal) (c : Fin 768) (h : ¬ c.val % 64 < 32) :
    rotRef p co si (permIx c)
      = p (permIx c) * co ⟨c.val % 64 - 32, by omega⟩ + p (permIx ⟨c.val - 32, by omega⟩) * si ⟨c.val % 64 - 32, by omega⟩ := by
  have hv : (permIx c).val = 64 * (c.val / 64) + (2 * (c.val % 64 - 32) + 1) := by
    unfold permIx; dsimp only; rw [if_neg h]
  have hn : permIx ⟨c.val - 32, by omega⟩ = ⟨(permIx c).val - 1, by omega⟩ := by
    apply Fin.ext; dsimp only; rw [hv]; unfold permIx; dsimp only
    rw [if_pos (by omega)]; omega
  have hj : (⟨(permIx c).val % 64 / 2, by omega⟩ : Fin 32) = ⟨c.val % 64 - 32, by omega⟩ := by
    apply Fin.ext; dsimp only; rw [hv]; omega
  unfold rotRef
  rw [dif_neg (by rw [hv]; omega), hj, hn, add_comm]

/-! ## The softmax -/

/-- The largest of finitely many reals, each scaled by the same positive factor. -/
theorem fold_max_scaled (t : Fin 2048 → ℝ) : ∃ M : ℝ, ∀ c : ℝ, 0 < c →
    Finset.fold max (⊥ : EReal) (fun x => ((t x * c : ℝ) : EReal)) Finset.univ = ((M * c : ℝ) : EReal) := by
  obtain ⟨b, -, hb⟩ := Finset.exists_max_image (Finset.univ : Finset (Fin 2048)) t ⟨0, Finset.mem_univ _⟩
  refine ⟨t b, fun c hc => le_antisymm ?_ ?_⟩
  · refine Finset.sup_le (f := fun x => ((t x * c : ℝ) : EReal)) fun x hx => ?_
    exact_mod_cast mul_le_mul_of_nonneg_right (hb x hx) hc.le
  · exact Finset.le_sup (f := fun x => ((t x * c : ℝ) : EReal)) (Finset.mem_univ b)

/-- The scores of one query over every key, each divided by 8. -/
def scaled (t : Fin 2048 → EReal) (x : Fin 2048) : EReal := Ideal.div (t x) ((8 : ℝ) : EReal)

/-- The exponentials of the scaled scores relative to their maximum. -/
def expRef (t : Fin 2048 → EReal) (x : Fin 2048) : EReal :=
  Ideal.exp (scaled t x - max ⊥ (Finset.fold max ⊥ (scaled t) Finset.univ))

/-- The softmax's weights times the values. -/
def softRef (t v : Fin 2048 → EReal) : EReal := ∑ x, Ideal.div (expRef t x) (∑ y, expRef t y) * v x

/-- Exponentials in base two of the scores times `1 / (8 log 2)`, normalised after the product with the values, are the
    softmax of the scores over 8 times the values. -/
theorem soft_eq (t v : Fin 2048 → EReal) (ht : ∀ x, IsReal (t x)) :
    Ideal.div
      (∑ x, Ideal.exp2 (t x * (((8 * Real.log 2)⁻¹ : ℝ) : EReal)
        - Finset.fold max ⊥ (fun x => t x * (((8 * Real.log 2)⁻¹ : ℝ) : EReal)) Finset.univ) * v x)
      (∑ x, Ideal.exp2 (t x * (((8 * Real.log 2)⁻¹ : ℝ) : EReal)
        - Finset.fold max ⊥ (fun x => t x * (((8 * Real.log 2)⁻¹ : ℝ) : EReal)) Finset.univ))
      = softRef t v := by
  choose s hs using ht
  obtain rfl : t = fun x => (s x : EReal) := funext hs
  obtain ⟨M, hM⟩ := fold_max_scaled s
  have hlog : 0 < Real.log 2 := Real.log_pos (by norm_num)
  have hc : 0 < (8 * Real.log 2)⁻¹ := by positivity
  have h8 : (0 : ℝ) < 8⁻¹ := by norm_num
  have hscaled : scaled (fun x => (s x : EReal)) = fun x => ((s x * 8⁻¹ : ℝ) : EReal) := funext fun x => by
    unfold scaled; rw [div_coe _ (by norm_num), EReal.coe_mul]
  have hexp : ∀ x, expRef (fun x => (s x : EReal)) x = ((Real.exp ((s x - M) * 8⁻¹) : ℝ) : EReal) := fun x => by
    unfold expRef
    rw [hscaled, hM _ h8, max_eq_right bot_le, ← EReal.coe_sub, ← sub_mul]
    rfl
  have hexp2 : ∀ x, Ideal.exp2 ((s x : EReal) * (((8 * Real.log 2)⁻¹ : ℝ) : EReal)
        - Finset.fold max ⊥ (fun x => (s x : EReal) * (((8 * Real.log 2)⁻¹ : ℝ) : EReal)) Finset.univ)
      = ((Real.exp ((s x - M) * 8⁻¹) : ℝ) : EReal) := fun x => by
    simp only [← EReal.coe_mul]
    rw [hM _ hc, ← EReal.coe_sub, ← sub_mul]
    show ((Real.rpow 2 ((s x - M) * (8 * Real.log 2)⁻¹) : ℝ) : EReal) = _
    congr 1
    show (2 : ℝ) ^ ((s x - M) * (8 * Real.log 2)⁻¹) = _
    rw [Real.rpow_def_of_pos (by norm_num)]
    congr 1
    field_simp
  unfold softRef
  simp only [hexp, hexp2]
  rw [coe_sum]
  have hL : 0 < ∑ x : Fin 2048, Real.exp ((s x - M) * 8⁻¹) :=
    Finset.sum_pos (fun x _ => Real.exp_pos _) ⟨0, Finset.mem_univ _⟩
  rw [div_coe _ hL.ne', sum_mul_coe _ _ (inv_nonneg.2 hL.le)]
  refine Finset.sum_congr rfl fun x _ => ?_
  rw [div_coe _ hL.ne', mul_assoc, mul_assoc, mul_comm (v x)]

/-! ## The whole computation of one expert, on plain functions -/

/-- Row `r` of the activations times a matrix of weights. -/
def proj (x : Fin 2048 → Fin 768 → EReal) (W : Fin 768 → Fin 768 → EReal) (r : Fin 2048) (c : Fin 768) : EReal :=
  ∑ k, x r k * W k c

/-- The queries or the keys: projected, normalised, rotated. -/
def rotated (x : Fin 2048 → Fin 768 → EReal) (W : Fin 768 → Fin 768 → EReal) (g b : Fin 768 → EReal)
    (co si : Fin 2048 → Fin 32 → EReal) (r : Fin 2048) : Fin 768 → EReal :=
  rotRef (lnRef (proj x W r) g b) (co r) (si r)

/-- The product of a query with a key, over the lanes of one head. -/
def score (q k : Fin 2048 → Fin 768 → EReal) (h : Fin 12) (r y : Fin 2048) : EReal :=
  ∑ d : Fin 64, q r (lane h d) * k y (lane h d)

/-- The head a lane belongs to. -/
def headOf (c : Fin 768) : Fin 12 := ⟨c.val / 64, by omega⟩

/-- The attention's output. -/
def attend (q k v : Fin 2048 → Fin 768 → EReal) (r : Fin 2048) (c : Fin 768) : EReal :=
  softRef (score q k (headOf c) r) (fun y => v y c)

/-- The gate of one expert at one row. -/
def gate (x : Fin 2048 → Fin 768 → EReal) (gw : Fin 768 → Fin 8 → EReal) (gb : Fin 8 → EReal) (e : Fin 8) (r : Fin 2048) :
    EReal :=
  Ideal.logistic (∑ k, x r k * gw k e + gb e)

/-- What one expert adds to the output. -/
def contrib (a : Fin 2048 → Fin 768 → EReal) (Wo : Fin 768 → Fin 768 → EReal) (g : Fin 2048 → EReal) (r : Fin 2048)
    (c : Fin 768) : EReal :=
  (∑ n, a r n * Wo n c) * g r

theorem proj_isReal (x : Fin 2048 → Fin 768 → EReal) (W : Fin 768 → Fin 768 → EReal) (hx : ∀ r k, IsReal (x r k))
    (hW : ∀ k c, IsReal (W k c)) (r : Fin 2048) (c : Fin 768) : IsReal (proj x W r c) :=
  IsReal.sum _ _ fun k => IsReal.mul (hx r k) (hW k c)

theorem rotated_isReal (x : Fin 2048 → Fin 768 → EReal) (W : Fin 768 → Fin 768 → EReal) (g b : Fin 768 → EReal)
    (co si : Fin 2048 → Fin 32 → EReal) (hx : ∀ r k, IsReal (x r k)) (hW : ∀ k c, IsReal (W k c))
    (hg : ∀ c, IsReal (g c)) (hb : ∀ c, IsReal (b c)) (hc : ∀ r j, IsReal (co r j)) (hs : ∀ r j, IsReal (si r j))
    (r : Fin 2048) (c : Fin 768) : IsReal (rotated x W g b co si r c) :=
  rotRef_isReal _ _ _ (lnRef_isReal _ _ _ (proj_isReal x W hx hW r) hg hb) (hc r) (hs r) c

theorem score_isReal (q k : Fin 2048 → Fin 768 → EReal) (hq : ∀ r c, IsReal (q r c)) (hk : ∀ r c, IsReal (k r c))
    (h : Fin 12) (r y : Fin 2048) : IsReal (score q k h r y) :=
  IsReal.sum _ _ fun _ => IsReal.mul (hq _ _) (hk _ _)

end Cert.KernelIdeal.Maths

end
-- ==== Proof.Args.lean ====
/-
What the precondition gives: every entry of the arguments it reads is a real number.
-/
module

public import proofs.«01_k».proof.Pre_finite_inputs
public import proofs.«01_k».proof.Proof.Maths
public import Idealize.ShloMosaic.Lib.ReduceAll

@[expose] public section

noncomputable section

namespace Cert.Pre_finite_inputs

open Idealize.ShloMosaic Cert.KernelIdeal.Maths

/-- The side conditions of the precondition's operations. -/
theorem facts : Facts where
  bcast_S_S1x2048x768 := by decide
  reducesTo_S1x2048x768_S_d0_1_2 := by decide
  h_S_ := by decide
  bcast_S_S2048x32x2 := by decide
  reducesTo_S2048x32x2_S_d0_1_2 := by decide
  bcast_S_S8x768x768 := by decide
  reducesTo_S8x768x768_S_d0_1_2 := by decide
  bcast_S_S8x768 := by decide
  reducesTo_S8x768_S_d0_1 := by decide

/-- Two words that are 1 together are each 1. -/
theorem and_one {x y : IVec S_ 1} (i : S_.Idx) (h : andi x y i = 1#1) : x i = 1#1 ∧ y i = 1#1 := by
  have h' : x i &&& y i = 1#1 := h
  revert h'
  generalize x i = a
  generalize y i = b
  revert a b
  decide

/-- An array all of whose entries are below infinity in size holds real numbers. -/
theorem real_of_all {S : Shape} {axes : List (Fin S.rank)} (x : FVec Ideal S .f32) (hb : S_.BroadcastsInDim S (![] : Fin 0 → Fin S.rank))
    (hr : S.ReducesTo axes S_) (hs : 0 < S_.numel) (j : S_.Idx)
    (h : Host.reduce IntOp.andi (cmpf .olt (Host.absf x) (broadcastInDim S ![] hb (constant (F := Ideal) S_ .f32 0x7F800000#32)))
      (constantI S_ 1 1#1) hr hs j = 1#1) (i : S.Idx) : IsReal (x i) := by
  have : Subsingleton S_.Idx := ⟨fun a b => funext fun k => k.elim0⟩
  have e := Host.reduce_andi_all _ _ hr hs j h i
  refine isReal_of_lt_top ?_
  rw [← ofBits_top]
  by_contra hn
  have e' : BitVec.ofBool (decide (max (x i) (-(x i)) < Ideal.ofBits .f32 0x7F800000#32)) = 1#1 := e
  rw [decide_eq_false hn] at e'
  exact absurd e' (by decide)

variable [Facts]
open Facts

/-- The precondition's eight conjuncts, each at every entry. -/
theorem reals_of_fn {x0 : FVec Ideal S1x2048x768 .f32} {x1 : FVec Ideal S2048x32x2 .f32} {x2 x3 x4 x5 : FVec Ideal S8x768x768 .f32}
    {x6 x7 x8 x9 : FVec Ideal S8x768 .f32} {x10 : FVec Ideal S768x8 .f32} {x11 : FVec Ideal S8 .f32}
    (h : fn (F := Ideal) x0 x1 x2 x3 x4 x5 x6 x7 x8 x9 x10 x11 = fun _ => 1#1) :
    (∀ i, IsReal (x0 i)) ∧ (∀ i, IsReal (x1 i)) ∧ (∀ i, IsReal (x2 i)) ∧ (∀ i, IsReal (x3 i)) ∧ (∀ i, IsReal (x6 i))
      ∧ (∀ i, IsReal (x7 i)) ∧ (∀ i, IsReal (x8 i)) ∧ (∀ i, IsReal (x9 i)) := by
  have j : S_.Idx := fun k => k.elim0
  have e := congrFun h j
  unfold fn fn_part1 fn_part2 at e
  obtain ⟨e, h9⟩ := and_one j e
  obtain ⟨e, h8⟩ := and_one j e
  obtain ⟨e, h7⟩ := and_one j e
  obtain ⟨e, h6⟩ := and_one j e
  obtain ⟨e, h3⟩ := and_one j e
  obtain ⟨e, h2⟩ := and_one j e
  obtain ⟨h0, h1⟩ := and_one j e
  exact ⟨real_of_all x0 _ _ _ j h0, real_of_all x1 _ _ _ j h1, real_of_all x2 _ _ _ j h2, real_of_all x3 _ _ _ j h3,
    real_of_all x6 _ _ _ j h6, real_of_all x7 _ _ _ j h7, real_of_all x8 _ _ _ j h8, real_of_all x9 _ _ _ j h9⟩

end Cert.Pre_finite_inputs

end
-- ==== Proof.Blocks.lean ====
/-
The arithmetic of one grid point of the kernel, read coordinate by coordinate at exact arithmetic: one row of each
projection, its layer normalisation and rotation, one row of one head's attention, and one row of the output's update.
Each definition is a function of whole rows; each theorem says that a stored block holds its values.
-/
module

public import proofs.«01_k».proof.Proof.Gen.KernelIdeal.Loops
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

/-! ## Rows -/

/-- The reciprocal of the row length. -/
def invDim : EReal := (Named.named κ "inv_dim" 0x3AAAAAAB#32 : Ideal .f32)
/-- The factor applied to the queries. -/
def qScale : EReal := (Named.named κ "qscale" 0x3E38AA3B#32 : Ideal .f32)
/-- The number added to the variance. -/
def eps : EReal := Ideal.ofBits .f32 (0x3727C5AC#32)

/-- Row `r` of the product of the activations with one projection's weights. -/
def pRow (x : Vec Ideal S2048x768 .bf16) (w : Vec Ideal S1x768x768 .bf16) (r : Fin 2048) (c : Fin 768) : EReal :=
  ∑ k : Fin 768, x (ix2 r k) * w (ix3 0 k c)

/-- A row normalised by its mean and by the mean of its squares, then scaled and shifted. -/
def lnRow (p : Fin 768 → EReal) (g b : Vec Ideal S1x1x768 .f32) (c : Fin 768) : EReal :=
  (p c - (∑ x, p x) * invDim)
        * Ideal.rsqrt ((∑ x, p x * p x) * invDim - (∑ x, p x) * invDim * ((∑ x, p x) * invDim) + eps)
      * g (ix3 0 0 c) + b (ix3 0 0 c)

/-- The lane a half-swap within a head reads at lane `c`. -/
def swapIx (c : Fin 768) : Fin 768 :=
  if h : c.val % 64 < 32 then ⟨c.val + 32, by omega⟩ else ⟨c.val - 32, by omega⟩

/-- A row rotated: the row times the cosines plus the half-swapped row times the signed sines. -/
def rotRow (p cosr sinr : Fin 768 → EReal) (c : Fin 768) : EReal := p c * cosr c + p (swapIx c) * sinr c

/-- One row of one head's attention: the scores' exponentials relative to their maximum, times each column of the
    values, over the same sum for the value column 64. -/
def headRow (q : Fin 64 → EReal) (K : Vec Ideal S2048x64 .bf16) (V : Vec Ideal S2048x128 .bf16) (c : Fin 64) : EReal :=
  Ideal.div
    (∑ x, FloatOps.exp2 (F := Ideal) (φ := .f32) (∑ j, q j * K (ix2 x j)
        - Finset.fold max (Ideal.ofBits FTy.f32 4286578688#32) (fun x => ∑ j, q j * K (ix2 x j)) Finset.univ)
      * V (ix2 x ⟨c.val, by omega⟩))
    (∑ x, FloatOps.exp2 (F := Ideal) (φ := .f32) (∑ j, q j * K (ix2 x j)
        - Finset.fold max (Ideal.ofBits FTy.f32 4286578688#32) (fun x => ∑ j, q j * K (ix2 x j)) Finset.univ)
      * V (ix2 x 64))

/-- The gate's value of row `r`, picked out of the eight by comparing each column's number with the expert's. -/
def gateAt (e : BitVec 32) (x : Vec Ideal S2048x768 .bf16) (gw : Vec Ideal S768x8 .bf16) (gb : Vec Ideal S1x8 .f32)
    (r : Fin 2048) : EReal :=
  ∑ j : Fin 8, Scalar.select (IntOp.cmpi .eq (BitVec.ofNat 32 j.val) e)
    (Ideal.logistic (∑ k, x (ix2 r k) * gw (ix2 k j) + gb (ix2 0 j))) 0

/-! ## Whole arrays -/

/-- The keys of one expert. -/
def kArr (x : Vec Ideal S2048x768 .bf16) (w : Vec Ideal S1x768x768 .bf16) (g b : Vec Ideal S1x1x768 .f32)
    (cosb sinb : Vec Ideal S2048x768 .bf16) : Vec Ideal S2048x768 .bf16 := fun y =>
  rotRow (lnRow (pRow x w (y 0)) g b) (fun c => cosb (ix2 (y 0) c)) (fun c => sinb (ix2 (y 0) c)) (y 1)

/-- The queries of one expert: as the keys, times the scale. -/
def qArr (x : Vec Ideal S2048x768 .bf16) (w : Vec Ideal S1x768x768 .bf16) (g b : Vec Ideal S1x1x768 .f32)
    (cosb sinb : Vec Ideal S2048x768 .bf16) : Vec Ideal S2048x768 .bf16 := fun y =>
  rotRow (lnRow (pRow x w (y 0)) g b) (fun c => cosb (ix2 (y 0) c)) (fun c => sinb (ix2 (y 0) c)) (y 1) * qScale

/-- The position, in a row of 768 lanes, of lane `c` of the row of twelve slots of 128 lanes (for a lane below 64 of
    its slot). -/
def packIx (c : Fin 1536) : Fin 768 := ⟨(64 * (c.val / 128) + c.val % 128) % 768, Nat.mod_lt _ (by decide)⟩

/-- The values of one expert, each head in the first 64 lanes of its slot of 128; the other lanes as they were. -/
def vArr (x : Vec Ideal S2048x768 .bf16) (w : Vec Ideal S1x768x768 .bf16) (old : Vec Ideal S2048x1536 .bf16) :
    Vec Ideal S2048x1536 .bf16 := fun y =>
  if (y 1).val % 128 < 64 then pRow x w (y 0) (packIx (y 1)) else old y

/-- Every row of one head's attention, `y`'s column read modulo 64. -/
def headFn (h : Fin 12) (K : Vec Ideal S2048x64 .bf16) (V : Vec Ideal S2048x128 .bf16) (Q : Vec Ideal S2048x768 .bf16) :
    Vec Ideal S2048x768 .bf16 := fun y =>
  headRow (fun c => Q (ix2 (y 0) ⟨64 * h.val + c.val, by omega⟩)) K V ⟨(y 1).val % 64, Nat.mod_lt _ (by decide)⟩

/-- An array with head `h`'s columns replaced by that head's attention. -/
def headUpd (h : Fin 12) (K : Vec Ideal S2048x64 .bf16) (V : Vec Ideal S2048x128 .bf16) (Q A : Vec Ideal S2048x768 .bf16) :
    Vec Ideal S2048x768 .bf16 := fun y =>
  if 64 * h.val ≤ (y 1).val ∧ (y 1).val < 64 * h.val + 64 then headFn h K V Q y else A y

/-- The output after one expert: the heads' outputs through the output weights, times the gate, added on. -/
def outStep (e : BitVec 32) (x : Vec Ideal S2048x768 .bf16) (gw : Vec Ideal S768x8 .bf16) (gb : Vec Ideal S1x8 .f32)
    (wo : Vec Ideal S1x768x768 .bf16) (acc : Vec Ideal S2048x768 .bf16) (old : Vec Ideal S2048x768 .f32) :
    Vec Ideal S2048x768 .f32 := fun y =>
  old y + (∑ k, acc (ix2 (y 0) k) * wo (ix3 0 k (y 1))) * gateAt e x gw gb (y 0)

/-! ## The lane tests -/

theorem lane_lo : ∀ c : Fin 768,
    IntOp.cmpi .slt (IntOp.andi (BitVec.ofNat 32 c.val) 63#32) 32#32 = if c.val % 64 < 32 then 1#1 else 0#1 := by
  decide +kernel

/-- Choosing between the two rotations of a row by the lane is the half-swap. -/
theorem select_swap (p : Fin 768 → EReal) (c : Fin 768) (h1 : (c.val + 768 - 736) % 768 < 768) (h2 : (c.val + 768 - 32) % 768 < 768) :
    Scalar.select (IntOp.cmpi .slt (IntOp.andi (BitVec.ofNat 32 c.val) 63#32) 32#32)
      (p ⟨(c.val + 768 - 736) % 768, h1⟩) (p ⟨(c.val + 768 - 32) % 768, h2⟩) = p (swapIx c) := by
  rw [lane_lo]
  have hc := c.isLt
  by_cases h : c.val % 64 < 32
  · rw [if_pos h]
    show p _ = _
    congr 1
    apply Fin.ext
    simp only [swapIx, dif_pos h]
    omega
  · rw [if_neg h]
    show p _ = _
    congr 1
    apply Fin.ext
    simp only [swapIx, dif_neg h]
    omega

/-! ## The stored blocks -/

section

variable (v46 : Vec Ideal S256x768 .bf16) (w57 : Vec Ideal S1x768x768 .bf16)

/-- One row of the product of a block of activations with one projection's weights. -/
def bRow (v46 : Vec Ideal S256x768 .bf16) (w : Vec Ideal S1x768x768 .bf16) (r : Fin 256) (c : Fin 768) : EReal :=
  ∑ k : Fin 768, v46 (ix2 r k) * w (ix3 0 k c)

theorem k_block (v49 v52 : Vec Ideal S256x768 .bf16) (g b : Vec Ideal S1x1x768 .f32) (r : Fin 256) (c : Fin 768) :
    k0_pay19 (F := Ideal) (k0_pay7 v49) (k0_pay8 v52) (k0_pay13 (k0_pay9 v46 w57) g b) (ix2 r c)
      = rotRow (lnRow (bRow v46 w57 r) g b) (fun c => v49 (ix2 r c)) (fun c => v52 (ix2 r c)) c := by
  have hs := select_swap (lnRow (bRow v46 w57 r) g b) c (Nat.mod_lt _ (by decide)) (Nat.mod_lt _ (by decide))
  unfold rotRow
  rw [← hs]
  pointwise [k0_pay19, k0_pay7, k0_pay8, k0_pay13, k0_pay9, k0_pay6]
  simp only [lnRow, bRow, invDim, eps]

theorem q_block (v49 v52 : Vec Ideal S256x768 .bf16) (g b : Vec Ideal S1x1x768 .f32) (r : Fin 256) (c : Fin 768) :
    k0_pay18 (F := Ideal) (k0_pay8 v52) (k0_pay14 (k0_pay7 v49) (k0_pay11 v46 w57) g b) (k0_pay15 (k0_pay11 v46 w57) g b)
        (k0_pay16 (k0_pay11 v46 w57) g b) k0_pay17 32#32 (ix2 r c)
      = rotRow (lnRow (bRow v46 w57 r) g b) (fun c => v49 (ix2 r c)) (fun c => v52 (ix2 r c)) c * qScale := by
  have hs := select_swap (lnRow (bRow v46 w57 r) g b) c (Nat.mod_lt _ (by decide)) (Nat.mod_lt _ (by decide))
  unfold rotRow
  rw [← hs]
  pointwise [k0_pay18, k0_pay7, k0_pay8, k0_pay14, k0_pay15, k0_pay16, k0_pay17, k0_pay12, k0_pay11, k0_pay6]
  simp only [lnRow, bRow, invDim, eps, qScale]

end

theorem head_block (K : Vec Ideal S2048x64 .bf16) (V : Vec Ideal S2048x128 .bf16) (q : Vec Ideal S256x64 .bf16)
    (r : Fin 256) (c : Fin 64) :
    k0_pay52 (F := Ideal) K V q (ix2 r c) = headRow (fun j => q (ix2 r j)) K V c := by
  pointwise [k0_pay52]
  simp only [headRow]

theorem out_block (e : BitVec 32) (v46 : Vec Ideal S256x768 .bf16) (gw : Vec Ideal S768x8 .bf16) (gb : Vec Ideal S1x8 .f32)
    (v66 : Vec Ideal S256x768 .bf16) (v67 : Vec Ideal S1x768x768 .bf16) (v71 : Vec Ideal S256x768 .f32) (r : Fin 256) (c : Fin 768) :
    k0_pay5 (F := Ideal) e v46 gw gb v66 v67 v71 (ix2 r c)
      = v71 (ix2 r c) + (∑ k, v66 (ix2 r k) * v67 (ix3 0 k c))
        * ∑ j : Fin 8, Scalar.select (IntOp.cmpi .eq (BitVec.ofNat 32 j.val) e)
            (Ideal.logistic (∑ k, v46 (ix2 r k) * gw (ix2 k j) + gb (ix2 0 j))) 0 := by
  pointwise [k0_pay5]

/-! ## What the first grid point prepares -/

/-- The values' array before the first expert: a one in lane 64 of each slot of 128, a zero elsewhere. -/
def onesArr : Vec Ideal S2048x1536 .bf16 := fun y => if (y 1).val % 128 = 64 then 1 else 0

theorem lane_one : ∀ c : Fin 1536,
    IntOp.cmpi .eq (IntOp.andi (BitVec.ofNat 32 c.val) 127#32) 64#32 = if c.val % 128 = 64 then 1#1 else 0#1 := by
  decide +kernel

theorem ones_block : (k0_pay58 (F := Ideal)) = onesArr := by
  funext y
  obtain ⟨r, c, rfl⟩ : ∃ r c, y = ix2 r c := ⟨y 0, y 1, eq_ix2 y⟩
  have h := lane_one c
  pointwise [k0_pay58]
  rw [h]
  show _ = if c.val % 128 = 64 then (1 : EReal) else 0
  split_ifs <;> rfl

/-- The cosine of every lane, from a row holding a head's cosines in its first half and its sines in the second. -/
def cosArr (cs : Vec Ideal S2048x768 .bf16) : Vec Ideal S2048x768 .bf16 := fun y =>
  if (y 1).val % 64 < 32 then cs y else cs (ix2 (y 0) (swapIx (y 1)))

/-- The signed sine of every lane, from the same row. -/
def sinArr (cs : Vec Ideal S2048x768 .bf16) : Vec Ideal S2048x768 .bf16 := fun y =>
  if (y 1).val % 64 < 32 then 0 - cs (ix2 (y 0) (swapIx (y 1))) else cs y

theorem cos_block (cs : Vec Ideal S2048x768 .bf16) : k0_pay62 (F := Ideal) cs = cosArr cs := by
  funext y
  obtain ⟨r, c, rfl⟩ : ∃ r c, y = ix2 r c := ⟨y 0, y 1, eq_ix2 y⟩
  have hs := select_swap (fun c => cs (ix2 r c)) c (Nat.mod_lt _ (by decide)) (Nat.mod_lt _ (by decide))
  pointwise [k0_pay62, k0_pay61, k0_pay60, k0_pay59]
  rw [hs, lane_lo]
  show _ = if c.val % 64 < 32 then cs (ix2 r c) else cs (ix2 r (swapIx c))
  split_ifs <;> rfl

theorem sin_block (cs : Vec Ideal S2048x768 .bf16) : k0_pay63 (F := Ideal) cs = sinArr cs := by
  funext y
  obtain ⟨r, c, rfl⟩ : ∃ r c, y = ix2 r c := ⟨y 0, y 1, eq_ix2 y⟩
  have hs := select_swap (fun c => cs (ix2 r c)) c (Nat.mod_lt _ (by decide)) (Nat.mod_lt _ (by decide))
  pointwise [k0_pay63, k0_pay61, k0_pay60, k0_pay59]
  rw [hs, lane_lo]
  show _ = if c.val % 64 < 32 then 0 - cs (ix2 r (swapIx c)) else cs (ix2 r c)
  split_ifs <;> rfl

end Cert.KernelIdeal.Val
-- ==== Proof.Covers.lean ====
/-
Lists of stores that together hold one function over one region: each store's payload agrees with the function at its
place and lies in the region, and every place of the region is under some store.
-/
module

public import Idealize.ShloMosaic.Lib.WritesUnit
public import Idealize.ShloMosaic.Lib.Pipeline.Frame

@[expose] public section

namespace Cert.KernelIdeal.Val

open Idealize.ShloMosaic

/-- The stores `L` write `G` over the region `R`, and nothing else. -/
structure Covers {Val : EltTy → Type} {s : Shape} {e : EltTy} (L : List (View.Piece Val s e)) (G : s.Idx → Val e)
    (R : s.Idx → Prop) : Prop where
  agree : ∀ p ∈ L, ∀ x : p.1.shape.Idx, p.2 x = G (p.1.emb x)
  inside : ∀ p ∈ L, ∀ x : p.1.shape.Idx, R (p.1.emb x)
  cover : ∀ y, R y → ∃ p ∈ L, y ∈ p.1.set

variable {Val : EltTy → Type} {s : Shape} {e : EltTy} {G : s.Idx → Val e}

theorem Covers.nil : Covers ([] : List (View.Piece Val s e)) G (fun _ => False) :=
  ⟨fun _ h => absurd h List.not_mem_nil, fun _ h => absurd h List.not_mem_nil, fun _ h => h.elim⟩

theorem Covers.append {L₁ L₂ : List (View.Piece Val s e)} {R₁ R₂ : s.Idx → Prop} (h₁ : Covers L₁ G R₁) (h₂ : Covers L₂ G R₂) :
    Covers (L₁ ++ L₂) G (fun y => R₁ y ∨ R₂ y) where
  agree p hp := (List.mem_append.mp hp).elim (h₁.agree p) (h₂.agree p)
  inside p hp x := (List.mem_append.mp hp).elim (fun h => .inl (h₁.inside p h x)) (fun h => .inr (h₂.inside p h x))
  cover y hy := hy.elim
    (fun h => by obtain ⟨p, hp, hy⟩ := h₁.cover y h; exact ⟨p, List.mem_append_left _ hp, hy⟩)
    (fun h => by obtain ⟨p, hp, hy⟩ := h₂.cover y h; exact ⟨p, List.mem_append_right _ hp, hy⟩)

theorem Covers.congr {L : List (View.Piece Val s e)} {R R' : s.Idx → Prop} (h : Covers L G R) (hR : ∀ y, R y ↔ R' y) :
    Covers L G R' where
  agree := h.agree
  inside p hp x := (hR _).mp (h.inside p hp x)
  cover y hy := h.cover y ((hR y).mpr hy)

/-- One store through a rectangle of unit strides. -/
theorem Covers.unit {off off' size : Fin s.rank → ℕ} (inb : ∀ a, off a + size a ≤ s.size a)
    (w : (Rect.unit off size inb).shape.Idx → Val e) (ho : off = off')
    (hw : ∀ x, w x = G ((Rect.unit off size inb).emb x)) :
    Covers [(⟨Rect.unit off size inb, w⟩ : View.Piece Val s e)] G
      (fun y => ∀ a, off' a ≤ (y a).val ∧ (y a).val < off' a + size a) where
  agree p hp := by obtain rfl := List.mem_singleton.mp hp; exact hw
  inside p hp x a := by
    obtain rfl := List.mem_singleton.mp hp
    subst ho
    have hx : (x a).val < size a := (x a).isLt
    show off a ≤ off a + 1 * (x a).val ∧ off a + 1 * (x a).val < off a + size a
    omega
  cover y hy := by
    subst ho
    refine ⟨_, List.mem_singleton.mpr rfl, ?_⟩
    exact (Rect.mem_set_unit (inb := inb)).mpr hy

theorem Covers.cons {p : View.Piece Val s e} {L : List (View.Piece Val s e)} {R₁ R₂ : s.Idx → Prop} (h₁ : Covers [p] G R₁)
    (h₂ : Covers L G R₂) : Covers (p :: L) G (fun y => R₁ y ∨ R₂ y) := Covers.append h₁ h₂

/-- The stores of a loop's trips, each trip's in front of those before it. -/
theorem Covers.trips {n : ℕ} (L : ℕ → List (View.Piece Val s e)) (T : Fin n → List (View.Piece Val s e)) (R : Fin n → s.Idx → Prop)
    (h0 : L 0 = []) (hs : ∀ k : Fin n, L (k.val + 1) = T k ++ L k.val) (hT : ∀ k, Covers (T k) G (R k)) :
    Covers (L n) G (fun y => ∃ k, R k y) := by
  have H : ∀ k, k ≤ n → Covers (L k) G (fun y => ∃ j : Fin n, j.val < k ∧ R j y) := by
    intro k
    induction k with
    | zero =>
      intro _
      rw [h0]
      exact Covers.nil.congr fun y => ⟨False.elim, fun ⟨_, h, _⟩ => absurd h (Nat.not_lt_zero _)⟩
    | succ k ih =>
      intro hk
      rw [hs ⟨k, hk⟩]
      refine ((hT ⟨k, hk⟩).append (ih (Nat.le_of_lt hk))).congr fun y => ⟨?_, ?_⟩
      · rintro (h | ⟨j, hj, h⟩)
        · exact ⟨⟨k, hk⟩, Nat.lt_succ_self k, h⟩
        · exact ⟨j, Nat.lt_succ_of_lt hj, h⟩
      · rintro ⟨j, hj, h⟩
        rcases Nat.lt_succ_iff_lt_or_eq.mp hj with hj | hj
        · exact .inr ⟨j, hj, h⟩
        · exact .inl (by have : j = ⟨k, hk⟩ := Fin.ext hj
                         exact this ▸ h)
  exact (H n (Nat.le_refl n)).congr fun y => ⟨fun ⟨j, _, h⟩ => ⟨j, h⟩, fun ⟨j, h⟩ => ⟨j, j.isLt, h⟩⟩

section Read

variable {sig : RefSig} {κ : Kind} {sp : Space} (v : View sig κ sp s e) (f : v.ty.Contents Val)

theorem Covers.read_of {L : List (View.Piece Val s e)} {R : s.Idx → Prop} (h : Covers L G R) {y : s.Idx} (hy : R y) :
    v.read Val (v.writes Val f L) y = G y :=
  View.read_writes_apply_of_pieces v f G L h.agree y (h.cover y hy)

theorem Covers.read_of_not {L : List (View.Piece Val s e)} {R : s.Idx → Prop} (h : Covers L G R) {y : s.Idx} (hy : ¬ R y) :
    v.read Val (v.writes Val f L) y = v.read Val f y :=
  View.read_writes_apply_of_forall_not_mem v f y L fun p hp hm => by
    obtain ⟨x, rfl⟩ := p.1.exists_idx_of_mem hm
    exact hy (h.inside p hp x)

end Read

end Cert.KernelIdeal.Val
-- ==== Proof.LoopVals.lean ====
/-
What each of the kernel's loops leaves in the buffers it stores into, stated as a function of what it read, and handed
to the run of the body as the shape it goes on from.
-/
module

public import proofs.«01_k».proof.Proof.Blocks
public import proofs.«01_k».proof.Proof.Covers

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- A whole buffer's contents are those that read back as `A`. -/
theorem eq_unread_of {sp : Space} {s : Shape} {e : EltTy} {m : Memref sig .tc sp s e} (h : m.IsWhole)
    {f : m.view.ty.Contents (Elt Ideal)} {A : s.Idx → Elt Ideal e} (hf : ∀ y, m.view.read (Elt Ideal) f y = A y) :
    f = h.unread A := h.eq_unread (funext hf)

/-! ## The twelve heads' loops -/

/-- Two stored blocks of one trip of a head's loop, and the loop's stores as a whole. -/
theorem head_covers (h : Fin 12) (K : Vec Ideal S2048x64 .bf16) (V : Vec Ideal S2048x128 .bf16) (Q : Vec Ideal S2048x768 .bf16)
    (L : ℕ → List (View.Piece (Elt Ideal) S2048x768 .bf16)) (o1 o0 : Fin 4 → Fin 2 → ℕ)
    (i1 : ∀ k a, o1 k a + S256x64.size a ≤ S2048x768.size a) (i0 : ∀ k a, o0 k a + S256x64.size a ≤ S2048x768.size a)
    (h1 : ∀ k, o1 k = ![512 * k.val + 256, 64 * h.val]) (h0 : ∀ k, o0 k = ![512 * k.val, 64 * h.val]) (hz : L 0 = [])
    (hs : ∀ k : Fin 4, L (k.val + 1)
      = [⟨Rect.unit (s := S2048x768) (o1 k) S256x64.size (i1 k), k0_pay52 (F := Ideal) K V (fun x => Q ((Rect.unit (s := S2048x768) (o1 k) S256x64.size (i1 k)).emb x))⟩,
          ⟨Rect.unit (s := S2048x768) (o0 k) S256x64.size (i0 k), k0_pay52 (F := Ideal) K V (fun x => Q ((Rect.unit (s := S2048x768) (o0 k) S256x64.size (i0 k)).emb x))⟩]
        ++ L k.val) :
    Covers (L 4) (headFn h K V Q) (fun y => 64 * h.val ≤ (y 1).val ∧ (y 1).val < 64 * h.val + 64) := by
  have hb : ∀ (o : Fin 2 → ℕ) (r : ℕ) (inb : ∀ a, o a + S256x64.size a ≤ S2048x768.size a), o = ![r, 64 * h.val] →
      ∀ x, k0_pay52 (F := Ideal) K V (fun x => Q ((Rect.unit (s := S2048x768) o S256x64.size inb).emb x)) x
        = headFn h K V Q ((Rect.unit (s := S2048x768) o S256x64.size inb).emb x) := by
    intro o r inb ho x
    obtain ⟨a, b, rfl⟩ : ∃ (a : Fin 256) (b : Fin 64), x = ix2 a b := ⟨x 0, x 1, eq_ix2 x⟩
    subst ho
    rw [head_block]
    unfold headFn
    congr 1
    · funext j
      congr 1
      funext i
      fin_cases i
      · rfl
      · apply Fin.ext
        show 64 * h.val + 1 * j.val = 64 * h.val + j.val
        omega
    · apply Fin.ext
      show b.val = (64 * h.val + 1 * b.val) % 64
      omega
  refine (Covers.trips (n := 4) L _ (fun k y => (∀ a, (![512 * k.val + 256, 64 * h.val] : Fin 2 → ℕ) a ≤ (y a).val
      ∧ (y a).val < (![512 * k.val + 256, 64 * h.val] : Fin 2 → ℕ) a + S256x64.size a)
      ∨ (∀ a, (![512 * k.val, 64 * h.val] : Fin 2 → ℕ) a ≤ (y a).val
      ∧ (y a).val < (![512 * k.val, 64 * h.val] : Fin 2 → ℕ) a + S256x64.size a)) hz hs
    (fun k => (Covers.unit (i1 k) _ (h1 k) (hb _ _ _ (h1 k))).cons (Covers.unit (i0 k) _ (h0 k) (hb _ _ _ (h0 k))))).congr ?_
  intro y
  have hy : (y 0).val < 2048 := (y 0).isLt
  constructor
  · rintro ⟨k, hk | hk⟩ <;> exact hk 1
  · intro hc
    by_cases hm : (y 0).val % 512 < 256
    · refine ⟨⟨(y 0).val / 512, by omega⟩, .inr (Fin.forall_fin_two.mpr ⟨?_, hc⟩)⟩
      show 512 * ((y 0).val / 512) ≤ (y 0).val ∧ (y 0).val < 512 * ((y 0).val / 512) + 256
      omega
    · refine ⟨⟨(y 0).val / 512, by omega⟩, .inl (Fin.forall_fin_two.mpr ⟨?_, hc⟩)⟩
      show 512 * ((y 0).val / 512) + 256 ≤ (y 0).val ∧ (y 0).val < 512 * ((y 0).val / 512) + 256 + 256
      omega

/-- A buffer written by a head's loop reads as the old array with the head's columns replaced. -/
theorem head_read {sp : Space} {m : Memref sig .tc sp S2048x768 .bf16} (hm : m.IsWhole) (h : Fin 12) (K : Vec Ideal S2048x64 .bf16)
    (V : Vec Ideal S2048x128 .bf16) (Q : Vec Ideal S2048x768 .bf16) {L : List (View.Piece (Elt Ideal) S2048x768 .bf16)}
    (hL : Covers L (headFn h K V Q) (fun y => 64 * h.val ≤ (y 1).val ∧ (y 1).val < 64 * h.val + 64))
    (G : m.view.ty.Contents (Elt Ideal)) :
    m.view.writes (Elt Ideal) G L = hm.unread (headUpd h K V Q (m.view.read (Elt Ideal) G)) :=
  eq_unread_of hm fun y => by
    unfold headUpd
    split_ifs with hc
    · exact hL.read_of m.view G hc
    · exact hL.read_of_not m.view G hc

/-- What a head's loop leaves: the queries as they were, the heads' outputs with this head's columns replaced. -/
abbrev headPost (c : Dev nD) (m14 : Memref sig .tc .vmem S2048x768 .bf16) (m17 : Memref sig .tc .vmem S2048x768 .bf16)
    (hm : m17.IsWhole) (h : Fin 12) (K : Vec Ideal S2048x64 .bf16) (V : Vec Ideal S2048x128 .bf16)
    (X : BufTy.Contents (Elt Ideal) m14.view.ty) (G : BufTy.Contents (Elt Ideal) m17.view.ty) : sProp 𝕄 :=
  iprop((m14.view.loc (c : Thread nD τ) ↦[m14.view.set]{fullShare} X)
    ∗ (m17.view.loc (c : Thread nD τ) ↦[m17.view.set]{fullShare}
        hm.unread (headUpd h K V (m14.view.read (Elt Ideal) X) (m17.view.read (Elt Ideal) G))))

theorem head_exit {c : Dev nD} {m14 m17 : Memref sig .tc .vmem S2048x768 .bf16} (hm : m17.IsWhole) (h : Fin 12)
    (K : Vec Ideal S2048x64 .bf16) (V : Vec Ideal S2048x128 .bf16) (X : BufTy.Contents (Elt Ideal) m14.view.ty)
    (G : BufTy.Contents (Elt Ideal) m17.view.ty)
    (L : ℕ → List (View.Piece (Elt Ideal) S2048x768 .bf16)) (o1 o0 : Fin 4 → Fin 2 → ℕ)
    (i1 : ∀ k a, o1 k a + S256x64.size a ≤ S2048x768.size a) (i0 : ∀ k a, o0 k a + S256x64.size a ≤ S2048x768.size a)
    (h1 : ∀ k, o1 k = ![512 * k.val + 256, 64 * h.val]) (h0 : ∀ k, o0 k = ![512 * k.val, 64 * h.val]) (hz : L 0 = [])
    (hs : ∀ k : Fin 4, L (k.val + 1)
      = [⟨Rect.unit (s := S2048x768) (o1 k) S256x64.size (i1 k), k0_pay52 (F := Ideal) K V
            (fun x => m14.view.read (Elt Ideal) X ((Rect.unit (s := S2048x768) (o1 k) S256x64.size (i1 k)).emb x))⟩,
          ⟨Rect.unit (s := S2048x768) (o0 k) S256x64.size (i0 k), k0_pay52 (F := Ideal) K V
            (fun x => m14.view.read (Elt Ideal) X ((Rect.unit (s := S2048x768) (o0 k) S256x64.size (i0 k)).emb x))⟩]
        ++ L k.val) :
    iprop((m14.view.loc (c : Thread nD τ) ↦[m14.view.set]{fullShare} X)
      ∗ (∃ f, (m17.view.loc (c : Thread nD τ) ↦[m17.view.set]{fullShare} f) ∗ ⌜f = m17.view.writes (Elt Ideal) G (L 4)⌝))
      ⊢ headPost c m14 m17 hm h K V X G := by
  iintro ⟨H1, ⟨%f, H2, %hf⟩⟩
  subst hf
  rw [head_read hm h K V (m14.view.read (Elt Ideal) X)
    (head_covers h K V (m14.view.read (Elt Ideal) X) L o1 o0 i1 i0 h1 h0 hz hs) G]
  isplitl [H1]; · iexact H1
  iexact H2

/-! ## The blocks of rows -/

/-- Block `n` of 256 rows, or the rows before it, are the rows before the next. -/
theorem rows_step (y : S2048x768.Idx) (n : ℕ) :
    ((∀ a, (![256 * n, 0] : Fin 2 → ℕ) a ≤ (y a).val ∧ (y a).val < (![256 * n, 0] : Fin 2 → ℕ) a + S256x768.size a)
      ∨ (y 0).val < 256 * n) ↔ (y 0).val < 256 * (n + 1) := by
  have h1 : (y 1).val < 768 := (y 1).isLt
  constructor
  · rintro (h | h)
    · have h0 : 256 * n ≤ (y 0).val ∧ (y 0).val < 256 * n + 256 := h 0
      omega
    · omega
  · intro h
    by_cases hlt : (y 0).val < 256 * n
    · exact .inr hlt
    · refine .inl (Fin.forall_fin_two.mpr ⟨?_, ?_⟩)
      · show 256 * n ≤ (y 0).val ∧ (y 0).val < 256 * n + 256
        omega
      · show 0 ≤ (y 1).val ∧ (y 1).val < 0 + 768
        omega

/-- Eight stored blocks of 256 whole rows, each holding `A`'s rows. -/
theorem rows_covers {e : EltTy} (A : S2048x768.Idx → Elt Ideal e) (L : ℕ → List (View.Piece (Elt Ideal) S2048x768 e))
    (o : Fin 8 → Fin 2 → ℕ) (inb : ∀ k a, o k a + S256x768.size a ≤ S2048x768.size a) (ho : ∀ k, o k = ![256 * k.val, 0])
    (P : Fin 8 → S256x768.Idx → Elt Ideal e) (hz : L 0 = [])
    (hs : ∀ k : Fin 8, L (k.val + 1) = [⟨Rect.unit (s := S2048x768) (o k) S256x768.size (inb k), P k⟩] ++ L k.val)
    (hP : ∀ (k : Fin 8) (a : Fin 256) (b : Fin 768), P k (ix2 a b) = A (ix2 ⟨256 * k.val + a.val, by omega⟩ b)) :
    ∀ k, k ≤ 8 → Covers (L k) A (fun y => (y 0).val < 256 * k) := by
  intro k
  induction k with
  | zero =>
    intro _
    rw [hz]
    exact Covers.nil.congr fun y => ⟨False.elim, fun h => absurd h (by omega)⟩
  | succ k ih =>
    intro hk
    rw [hs ⟨k, hk⟩]
    refine ((Covers.unit (inb ⟨k, hk⟩) _ (ho ⟨k, hk⟩) ?_).append (ih (Nat.le_of_lt hk))).congr fun y => ?_
    · intro x
      obtain ⟨a, b, rfl⟩ : ∃ (a : Fin 256) (b : Fin 768), x = ix2 a b := ⟨x 0, x 1, eq_ix2 x⟩
      rw [hP]
      congr 1
      funext i
      apply Fin.ext
      show _ = o ⟨k, hk⟩ i + 1 * ((ix2 a b : S256x768.Idx) i).val
      rw [ho]
      fin_cases i
      · show 256 * k + a.val = 256 * k + 1 * a.val
        omega
      · show b.val = 0 + 1 * b.val
        omega
    · exact rows_step y k

/-- A buffer so written reads as `A`. -/
theorem rows_read {sp : Space} {e : EltTy} {m : Memref sig .tc sp S2048x768 e} (hm : m.IsWhole)
    {L : List (View.Piece (Elt Ideal) S2048x768 e)} {A : S2048x768.Idx → Elt Ideal e}
    (hL : Covers L A (fun y => (y 0).val < 256 * 8)) (G : m.view.ty.Contents (Elt Ideal)) :
    m.view.writes (Elt Ideal) G L = hm.unread A :=
  eq_unread_of hm fun y => hL.read_of m.view G (show (y 0).val < 2048 from (y 0).isLt)

/-- Rows `256k …` of an array of 768 columns. -/
def rowsAt {e : EltTy} (k : Fin 8) (x : S2048x768.Idx → Elt Ideal e) : S256x768.Idx → Elt Ideal e := fun y =>
  x (ix2 ⟨256 * k.val + (y 0).val, by have := (y 0).isLt; have : (y 0).val < 256 := this; omega⟩ (y 1))

theorem rowsAt_eq {e : EltTy} (k : Fin 8) (x : S2048x768.Idx → Elt Ideal e) {o : Fin 2 → ℕ}
    (inb : ∀ a, o a + S256x768.size a ≤ S2048x768.size a) (ho : o = ![256 * k.val, 0]) :
    (fun y => x ((Rect.unit (s := S2048x768) o S256x768.size inb).emb y)) = rowsAt k x := by
  subst ho
  funext y
  unfold rowsAt
  congr 1
  funext i
  apply Fin.ext
  fin_cases i
  · show 256 * k.val + 1 * (y 0).val = 256 * k.val + (y 0).val
    omega
  · show 0 + 1 * (y 1).val = (y 1).val
    omega

/-- A load of a whole array. -/
theorem whole_eq {s : Shape} {e : EltTy} (x : s.Idx → Elt Ideal e) {o : Fin s.rank → ℕ} (inb : ∀ a, o a + s.size a ≤ s.size a)
    (ho : ∀ a, o a = 0) : (fun y => x ((Rect.unit (s := s) o s.size inb).emb y)) = x := by
  funext y
  congr 1
  funext i
  apply Fin.ext
  show o i + 1 * (y i).val = (y i).val
  rw [ho]
  omega

/-! ## The projections' loop -/

section

variable (x : Vec Ideal S2048x768 .bf16) (w : Vec Ideal S1x768x768 .bf16) (g b : Vec Ideal S1x1x768 .f32)
  (cosb sinb : Vec Ideal S2048x768 .bf16)

theorem k_rows (k : Fin 8) (r : Fin 256) (c : Fin 768) :
    k0_pay19 (F := Ideal) (k0_pay7 (rowsAt k cosb)) (k0_pay8 (rowsAt k sinb)) (k0_pay13 (k0_pay9 (rowsAt k x) w) g b) (ix2 r c)
      = kArr x w g b cosb sinb (ix2 ⟨256 * k.val + r.val, by omega⟩ c) :=
  k_block _ _ _ _ _ _ _ _

theorem q_rows (k : Fin 8) (r : Fin 256) (c : Fin 768) :
    k0_pay18 (F := Ideal) (k0_pay8 (rowsAt k sinb)) (k0_pay14 (k0_pay7 (rowsAt k cosb)) (k0_pay11 (rowsAt k x) w) g b)
        (k0_pay15 (k0_pay11 (rowsAt k x) w) g b) (k0_pay16 (k0_pay11 (rowsAt k x) w) g b) k0_pay17 32#32 (ix2 r c)
      = qArr x w g b cosb sinb (ix2 ⟨256 * k.val + r.val, by omega⟩ c) :=
  q_block _ _ _ _ _ _ _ _

/-- The twelve stores of one trip into the values' array: where, and what. -/
def vOff (k : Fin 8) : Fin 12 → Fin 2 → ℕ :=
  ![k0_off2 k, k0_off3 k, k0_off4 k, k0_off5 k, k0_off6 k, k0_off7 k, k0_off8 k, k0_off9 k, k0_off10 k, k0_off11 k,
    k0_off12 k, k0_off13 k]

theorem vOff_eq : ∀ (k : Fin 8) (h : Fin 12), vOff k h = ![256 * k.val, 128 * h.val] := by decide +kernel

theorem vOff_inb (k : Fin 8) (h : Fin 12) (a : Fin 2) : vOff k h a + S256x64.size a ≤ S2048x1536.size a := by
  rw [vOff_eq]
  fin_cases a
  · show 256 * k.val + 256 ≤ 2048
    omega
  · show 128 * h.val + 64 ≤ 1536
    omega

def vPay (v : FVec Ideal S256x768 .f32) : Fin 12 → Vec Ideal S256x64 .bf16 :=
  ![k0_pay21 v, k0_pay22 v, k0_pay23 v, k0_pay25 (k0_pay24 v), k0_pay26 (k0_pay20 v), k0_pay27 (k0_pay20 v),
    k0_pay28 (k0_pay20 v), k0_pay29 (k0_pay20 v), k0_pay30 (k0_pay20 v), k0_pay31 (k0_pay20 v), k0_pay32 (k0_pay20 v),
    k0_pay64 (k0_pay33 (k0_pay20 v))]

/-- Head `h`'s store holds columns `64h …` of the projection. -/
theorem vPay_eq (v : FVec Ideal S256x768 .f32) (h : Fin 12) (r : Fin 256) (c : Fin 64) :
    vPay v h (ix2 r c) = v (ix2 r ⟨64 * h.val + c.val, by omega⟩) := by
  fin_cases h <;>
    simp only [vPay, Fin.zero_eta, Fin.mk_one, Fin.reduceFinMk, Matrix.cons_val] <;>
    pointwise [k0_pay21, k0_pay22, k0_pay23, k0_pay25, k0_pay24, k0_pay26, k0_pay27, k0_pay28, k0_pay29, k0_pay30, k0_pay31,
      k0_pay32, k0_pay64, k0_pay33, k0_pay20] <;>
    rfl

/-- One head's store of one trip. -/
def vPiece (k : Fin 8) (v : FVec Ideal S256x768 .f32) (h : Fin 12) : View.Piece (Elt Ideal) S2048x1536 .bf16 :=
  ⟨Rect.unit (s := S2048x1536) (vOff k h) S256x64.size (vOff_inb k h), vPay v h⟩

theorem v_proj (k : Fin 8) (r : Fin 256) (c : Fin 768) :
    k0_pay10 (F := Ideal) (rowsAt k x) w (ix2 r c) = pRow x w ⟨256 * k.val + r.val, by omega⟩ c := by
  have h : k0_pay10 (F := Ideal) (rowsAt k x) w (ix2 r c) = bRow (rowsAt k x) w r c := by
    pointwise [k0_pay10, k0_pay6]
    simp only [bRow]
  exact h

/-- The twelve stores of one trip. -/
theorem v_trip (old : Vec Ideal S2048x1536 .bf16) (k : Fin 8) (l : List (Fin 12)) :
    Covers (l.map (vPiece k (k0_pay10 (rowsAt k x) w))) (vArr x w old)
      (fun y => ∃ h ∈ l, (256 * k.val ≤ (y 0).val ∧ (y 0).val < 256 * k.val + 256)
        ∧ (128 * h.val ≤ (y 1).val ∧ (y 1).val < 128 * h.val + 64)) := by
  induction l with
  | nil => exact Covers.nil.congr fun y => ⟨False.elim, fun ⟨_, h, _⟩ => absurd h List.not_mem_nil⟩
  | cons h l ih =>
    refine ((Covers.unit (vOff_inb k h) _ (vOff_eq k h) ?_).cons ih).congr fun y => ?_
    · intro y
      obtain ⟨r, c, rfl⟩ : ∃ (r : Fin 256) (c : Fin 64), y = ix2 r c := ⟨y 0, y 1, eq_ix2 y⟩
      rw [vPay_eq, v_proj]
      have he : (Rect.unit (s := S2048x1536) (vOff k h) S256x64.size (vOff_inb k h)).emb (ix2 r c)
          = ix2 (⟨256 * k.val + r.val, by omega⟩ : Fin 2048) (⟨128 * h.val + c.val, by omega⟩ : Fin 1536) := by
        funext i
        apply Fin.ext
        show vOff k h i + 1 * ((ix2 r c : S256x64.Idx) i).val = _
        rw [vOff_eq]
        fin_cases i
        · show 256 * k.val + 1 * r.val = 256 * k.val + r.val
          omega
        · show 128 * h.val + 1 * c.val = 128 * h.val + c.val
          omega
      rw [he]
      unfold vArr
      have hlt : (128 * h.val + c.val) % 128 < 64 := by omega
      refine Eq.trans ?_ (if_pos hlt).symm
      show pRow x w _ _ = pRow x w _ (packIx _)
      congr 1
      apply Fin.ext
      show 64 * h.val + c.val = (64 * ((128 * h.val + c.val) / 128) + (128 * h.val + c.val) % 128) % 768
      omega
    · rw [Fin.forall_fin_two]
      constructor
      · rintro (h' | ⟨j, hj, h'⟩)
        · exact ⟨h, List.mem_cons_self, h'⟩
        · exact ⟨j, List.mem_cons_of_mem _ hj, h'⟩
      · rintro ⟨j, hj, h'⟩
        rcases List.mem_cons.mp hj with rfl | hj
        · exact .inl h'
        · exact .inr ⟨j, hj, h'⟩

/-- The values' array after the loop. -/
theorem v_read {sp : Space} {m : Memref sig .tc sp S2048x1536 .bf16} (hm : m.IsWhole)
    (L : ℕ → List (View.Piece (Elt Ideal) S2048x1536 .bf16)) (hz : L 0 = [])
    (hs : ∀ k : Fin 8, L (k.val + 1)
      = ([11, 10, 9, 8, 7, 6, 5, 4, 3, 2, 1, 0] : List (Fin 12)).map (vPiece k (k0_pay10 (rowsAt k x) w)) ++ L k.val)
    (G : m.view.ty.Contents (Elt Ideal)) :
    m.view.writes (Elt Ideal) G (L 8) = hm.unread (vArr x w (m.view.read (Elt Ideal) G)) := by
  have hL := Covers.trips (n := 8) L _ _ hz hs (fun k => v_trip x w (m.view.read (Elt Ideal) G) k _)
  have hmem : ∀ h : Fin 12, h ∈ ([11, 10, 9, 8, 7, 6, 5, 4, 3, 2, 1, 0] : List (Fin 12)) := by decide
  refine eq_unread_of hm fun y => ?_
  have h0 : (y 0).val < 2048 := (y 0).isLt
  have h1 : (y 1).val < 1536 := (y 1).isLt
  by_cases hc : (y 1).val % 128 < 64
  · refine hL.read_of m.view G ⟨⟨(y 0).val / 256, by omega⟩, ⟨(y 1).val / 128, by omega⟩, hmem _, ?_, ?_⟩
    · show 256 * ((y 0).val / 256) ≤ (y 0).val ∧ (y 0).val < 256 * ((y 0).val / 256) + 256
      omega
    · show 128 * ((y 1).val / 128) ≤ (y 1).val ∧ (y 1).val < 128 * ((y 1).val / 128) + 64
      omega
  · rw [hL.read_of_not m.view G fun ⟨_, h, _, _, h'⟩ => hc (by omega)]
    unfold vArr
    exact (if_neg hc).symm

end

/-! ## The output's loop -/

theorem out_rows (e : BitVec 32) (x : Vec Ideal S2048x768 .bf16) (gw : Vec Ideal S768x8 .bf16) (gb : Vec Ideal S1x8 .f32)
    (wo : Vec Ideal S1x768x768 .bf16) (acc : Vec Ideal S2048x768 .bf16) (old : Vec Ideal S2048x768 .f32) (k : Fin 8)
    (r : Fin 256) (c : Fin 768) :
    k0_pay5 (F := Ideal) e (rowsAt k x) gw gb (rowsAt k acc) wo (rowsAt k old) (ix2 r c)
      = outStep e x gw gb wo acc old (ix2 ⟨256 * k.val + r.val, by omega⟩ c) :=
  out_block _ _ _ _ _ _ _ _ _

theorem off1_eq (k : Fin 8) : k0_off1 k = ![256 * k.val, 0] := by
  fin_cases k <;> decide +kernel

theorem off26_eq (k : Fin 8) : k0_off26 k = ![256 * k.val, 0] := by
  fin_cases k <;> decide +kernel

/-- The output's stores: each trip reads its own rows, which no trip before it has written. -/
theorem out_read {sp : Space} {m : Memref sig .tc sp S2048x768 .f32} (hm : m.IsWhole) (e : BitVec 32) (x : Vec Ideal S2048x768 .bf16)
    (gw : Vec Ideal S768x8 .bf16) (gb : Vec Ideal S1x8 .f32) (wo : Vec Ideal S1x768x768 .bf16) (acc : Vec Ideal S2048x768 .bf16)
    (L : ℕ → List (View.Piece (Elt Ideal) S2048x768 .f32)) (o : Fin 8 → Fin 2 → ℕ)
    (inb : ∀ k a, o k a + S256x768.size a ≤ S2048x768.size a) (ho : ∀ k, o k = ![256 * k.val, 0])
    (G : m.view.ty.Contents (Elt Ideal)) (hz : L 0 = [])
    (hs : ∀ k : Fin 8, L (k.val + 1) = [⟨Rect.unit (s := S2048x768) (o k) S256x768.size (inb k),
      k0_pay5 (F := Ideal) e (rowsAt k x) gw gb (rowsAt k acc) wo
        (fun y => m.view.read (Elt Ideal) (m.view.writes (Elt Ideal) G (L k.val))
          ((Rect.unit (s := S2048x768) (o k) S256x768.size (inb k)).emb y))⟩] ++ L k.val) :
    m.view.writes (Elt Ideal) G (L 8) = hm.unread (outStep e x gw gb wo acc (m.view.read (Elt Ideal) G)) := by
  have H : ∀ n, n ≤ 8 → Covers (L n) (outStep e x gw gb wo acc (m.view.read (Elt Ideal) G)) (fun y => (y 0).val < 256 * n) := by
    intro n
    induction n with
    | zero =>
      intro _
      rw [hz]
      exact Covers.nil.congr fun y => ⟨False.elim, fun h => absurd h (by omega)⟩
    | succ n ih =>
      intro hn
      have hc := ih (Nat.le_of_lt hn)
      have hr : (fun y => m.view.read (Elt Ideal) (m.view.writes (Elt Ideal) G (L n))
          ((Rect.unit (s := S2048x768) (o ⟨n, hn⟩) S256x768.size (inb ⟨n, hn⟩)).emb y))
          = rowsAt ⟨n, hn⟩ (m.view.read (Elt Ideal) G) := by
        rw [← rowsAt_eq ⟨n, hn⟩ _ (inb ⟨n, hn⟩) (ho ⟨n, hn⟩)]
        funext y
        refine hc.read_of_not m.view G ?_
        have h0 : o ⟨n, hn⟩ 0 = 256 * n := congrFun (ho ⟨n, hn⟩) 0
        show ¬ (o ⟨n, hn⟩ 0 + 1 * (y 0).val < 256 * n)
        omega
      rw [hs ⟨n, hn⟩]
      refine ((Covers.unit (inb ⟨n, hn⟩) _ (ho ⟨n, hn⟩) ?_).append hc).congr fun y => ?_
      · intro y
        obtain ⟨a, b, rfl⟩ : ∃ (a : Fin 256) (b : Fin 768), y = ix2 a b := ⟨y 0, y 1, eq_ix2 y⟩
        refine (congrArg (fun r => k0_pay5 (F := Ideal) e (rowsAt ⟨n, hn⟩ x) gw gb (rowsAt ⟨n, hn⟩ acc) wo r (ix2 a b)) hr).trans ?_
        refine (out_rows _ _ _ _ _ _ _ _ _ _).trans ?_
        congr 1
        funext i
        apply Fin.ext
        show _ = o ⟨n, hn⟩ i + 1 * ((ix2 a b : S256x768.Idx) i).val
        rw [ho]
        fin_cases i
        · show 256 * n + a.val = 256 * n + 1 * a.val
          omega
        · show b.val = 0 + 1 * b.val
          omega
      · exact rows_step y n
  exact rows_read hm (H 8 (Nat.le_refl 8)) G

/-! ## The shapes the run of the body goes on from -/

section

variable (𝒱 : Variants) (c : Dev nD) (bd : Option 𝒱.V) (E : Set ℕ) (i : grid0.Coords)
  (arg1 : Memref sig .tc .vmem S2048x768 .bf16) (harg1 : arg1.IsWhole) (arg2 : Memref sig .tc .vmem S2048x768 .bf16)
  (harg2 : arg2.IsWhole) (arg3 : Memref sig .tc .vmem S768x8 .bf16) (harg3 : arg3.IsWhole)
  (arg4 : Memref sig .tc .vmem S1x8 .f32) (harg4 : arg4.IsWhole) (arg5 : Memref sig .tc .vmem S1x768x768 .bf16)
  (harg5 : arg5.IsWhole) (arg6 : Memref sig .tc .vmem S1x768x768 .bf16) (harg6 : arg6.IsWhole)
  (arg7 : Memref sig .tc .vmem S1x768x768 .bf16) (harg7 : arg7.IsWhole) (arg8 : Memref sig .tc .vmem S1x768x768 .bf16)
  (harg8 : arg8.IsWhole) (arg9 : Memref sig .tc .vmem S1x1x768 .f32) (harg9 : arg9.IsWhole)
  (arg10 : Memref sig .tc .vmem S1x1x768 .f32) (harg10 : arg10.IsWhole) (arg11 : Memref sig .tc .vmem S1x1x768 .f32)
  (harg11 : arg11.IsWhole) (arg12 : Memref sig .tc .vmem S1x1x768 .f32) (harg12 : arg12.IsWhole)
  (arg13 : Memref sig .tc .vmem S2048x768 .f32) (harg13 : arg13.IsWhole)
  (arg14 : Memref sig .tc .vmem S2048x768 .bf16) (harg14 : arg14.IsWhole)
  (arg15 : Memref sig .tc .vmem S2048x768 .bf16) (harg15 : arg15.IsWhole)
  (arg16 : Memref sig .tc .vmem S2048x1536 .bf16) (harg16 : arg16.IsWhole)
  (arg17 : Memref sig .tc .vmem S2048x768 .bf16) (harg17 : arg17.IsWhole)
  (arg18 : Memref sig .tc .vmem S2048x768 .bf16) (harg18 : arg18.IsWhole)
  (arg19 : Memref sig .tc .vmem S2048x768 .bf16) (harg19 : arg19.IsWhole)

instance exit_t1 (X1 : BufTy.Contents (Elt Ideal) arg1.view.ty) (X5 : BufTy.Contents (Elt Ideal) arg5.view.ty)
    (X6 : BufTy.Contents (Elt Ideal) arg6.view.ty) (X7 : BufTy.Contents (Elt Ideal) arg7.view.ty)
    (X9 : BufTy.Contents (Elt Ideal) arg9.view.ty) (X10 : BufTy.Contents (Elt Ideal) arg10.view.ty)
    (X11 : BufTy.Contents (Elt Ideal) arg11.view.ty) (X12 : BufTy.Contents (Elt Ideal) arg12.view.ty)
    (X18 : BufTy.Contents (Elt Ideal) arg18.view.ty) (X19 : BufTy.Contents (Elt Ideal) arg19.view.ty)
    (G14 : BufTy.Contents (Elt Ideal) arg14.view.ty) (G15 : BufTy.Contents (Elt Ideal) arg15.view.ty)
    (G16 : BufTy.Contents (Elt Ideal) arg16.view.ty) :
    LoopExit (loopInv_k0_t1 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X5 X6 X7 X9 X10 X11 X12 X18 X19 G14 G15 G16) where
  post _ := iprop((arg1.view.loc (c : Thread nD τ) ↦[arg1.view.set]{fullShare} X1) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} X9) ∗ (arg10.view.loc (c : Thread nD τ) ↦[arg10.view.set]{fullShare} X10)
    ∗ (arg11.view.loc (c : Thread nD τ) ↦[arg11.view.set]{fullShare} X11) ∗ (arg12.view.loc (c : Thread nD τ) ↦[arg12.view.set]{fullShare} X12)
    ∗ (arg18.view.loc (c : Thread nD τ) ↦[arg18.view.set]{fullShare} X18) ∗ (arg19.view.loc (c : Thread nD τ) ↦[arg19.view.set]{fullShare} X19)
    ∗ (arg14.view.loc (c : Thread nD τ) ↦[arg14.view.set]{fullShare} harg14.unread (qArr (arg1.view.read (Elt Ideal) X1)
        (arg5.view.read (Elt Ideal) X5) (arg9.view.read (Elt Ideal) X9) (arg10.view.read (Elt Ideal) X10)
        (arg18.view.read (Elt Ideal) X18) (arg19.view.read (Elt Ideal) X19)))
    ∗ (arg15.view.loc (c : Thread nD τ) ↦[arg15.view.set]{fullShare} harg15.unread (kArr (arg1.view.read (Elt Ideal) X1)
        (arg6.view.read (Elt Ideal) X6) (arg11.view.read (Elt Ideal) X11) (arg12.view.read (Elt Ideal) X12)
        (arg18.view.read (Elt Ideal) X18) (arg19.view.read (Elt Ideal) X19)))
    ∗ (arg16.view.loc (c : Thread nD τ) ↦[arg16.view.set]{fullShare} harg16.unread (vArr (arg1.view.read (Elt Ideal) X1)
        (arg7.view.read (Elt Ideal) X7) (arg16.view.read (Elt Ideal) G16))))
  exit _ := by
    show inv_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X5 X6 X7 X9 X10 X11 X12 X18 X19 G14 G15 G16 8 _ ⊢ _
    have ho := off1_eq
    have e1 := fun k => rowsAt_eq k (arg1.view.read (Elt Ideal) X1) (k0_off1_inb k) (ho k)
    have e18 := fun k => rowsAt_eq k (arg18.view.read (Elt Ideal) X18) (k0_off1_inb k) (ho k)
    have e19 := fun k => rowsAt_eq k (arg19.view.read (Elt Ideal) X19) (k0_off1_inb k) (ho k)
    have e5 := whole_eq (arg5.view.read (Elt Ideal) X5) inb_S1x768x768_S1x768x768_0_0_0 (by decide)
    have e6 := whole_eq (arg6.view.read (Elt Ideal) X6) inb_S1x768x768_S1x768x768_0_0_0 (by decide)
    have e7 := whole_eq (arg7.view.read (Elt Ideal) X7) inb_S1x768x768_S1x768x768_0_0_0 (by decide)
    have e9 := whole_eq (arg9.view.read (Elt Ideal) X9) inb_S1x1x768_S1x1x768_0_0_0 (by decide)
    have e10 := whole_eq (arg10.view.read (Elt Ideal) X10) inb_S1x1x768_S1x1x768_0_0_0 (by decide)
    have e11 := whole_eq (arg11.view.read (Elt Ideal) X11) inb_S1x1x768_S1x1x768_0_0_0 (by decide)
    have e12 := whole_eq (arg12.view.read (Elt Ideal) X12) inb_S1x1x768_S1x1x768_0_0_0 (by decide)
    have hs := fun k => pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X5 X6 X7 X9 X10 X11 X12 X18 X19 k
    have hq := rows_read harg14 (rows_covers (qArr (arg1.view.read (Elt Ideal) X1)
        (arg5.view.read (Elt Ideal) X5) (arg9.view.read (Elt Ideal) X9) (arg10.view.read (Elt Ideal) X10)
        (arg18.view.read (Elt Ideal) X18) (arg19.view.read (Elt Ideal) X19))
      (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X5 X6 X7 X9 X10 X11 X12 X18 X19 k).1)
      (fun k => k0_off1 k) (fun k => k0_off1_inb k) ho _ rfl
      (fun k => (congrArg Prod.fst (hs k)).trans (by
        unfold tripL_k0_t1 trip_k0_t1; dsimp only))
      (fun k r c => by
        rw [← q_rows, ← e1, ← e18, ← e19]
        conv_rhs => rw [← e5, ← e9, ← e10]
        rfl) 8 (Nat.le_refl 8)) G14
    have hk := rows_read harg15 (rows_covers (kArr (arg1.view.read (Elt Ideal) X1)
        (arg6.view.read (Elt Ideal) X6) (arg11.view.read (Elt Ideal) X11) (arg12.view.read (Elt Ideal) X12)
        (arg18.view.read (Elt Ideal) X18) (arg19.view.read (Elt Ideal) X19))
      (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X5 X6 X7 X9 X10 X11 X12 X18 X19 k).2.1)
      (fun k => k0_off1 k) (fun k => k0_off1_inb k) ho _ rfl
      (fun k => (congrArg (fun p => p.2.1) (hs k)).trans (by
        unfold tripL_k0_t1 trip_k0_t1; dsimp only))
      (fun k r c => by
        rw [← k_rows, ← e1, ← e18, ← e19]
        conv_rhs => rw [← e6, ← e11, ← e12]
        rfl) 8 (Nat.le_refl 8)) G15
    have hv := v_read (arg1.view.read (Elt Ideal) X1) (arg7.view.read (Elt Ideal) X7) harg16
      (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X5 X6 X7 X9 X10 X11 X12 X18 X19 k).2.2) rfl
      (fun k => (congrArg (fun p => p.2.2) (hs k)).trans (by
        unfold tripL_k0_t1 trip_k0_t1; dsimp only; sl_unfold_words
        rw [← e1]
        conv_rhs => rw [← e7]
        rfl)) G16
    iintro ⟨H1, H5, H6, H7, H9, H10, H11, H12, H18, H19, ⟨%f14, H14, %h14⟩, ⟨%f15, H15, %h15⟩, ⟨%f16, H16, %h16⟩⟩
    subst h14 h15 h16
    rw [← hq, ← hk, ← hv]
    isplitl [H1]; · iexact H1
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H18]; · iexact H18
    isplitl [H19]; · iexact H19
    isplitl [H14]; · iexact H14
    isplitl [H15]; · iexact H15
    iexact H16

instance exit_t14 (arg0 : BitVec 32) (X1 : BufTy.Contents (Elt Ideal) arg1.view.ty) (X3 : BufTy.Contents (Elt Ideal) arg3.view.ty)
    (X4 : BufTy.Contents (Elt Ideal) arg4.view.ty) (X8 : BufTy.Contents (Elt Ideal) arg8.view.ty)
    (X17 : BufTy.Contents (Elt Ideal) arg17.view.ty) (G : BufTy.Contents (Elt Ideal) arg13.view.ty) :
    LoopExit (loopInv_k0_t14 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 X1 X3 X4 X8 X17 G) where
  post _ := iprop((arg1.view.loc (c : Thread nD τ) ↦[arg1.view.set]{fullShare} X1) ∗ (arg3.view.loc (c : Thread nD τ) ↦[arg3.view.set]{fullShare} X3)
    ∗ (arg4.view.loc (c : Thread nD τ) ↦[arg4.view.set]{fullShare} X4) ∗ (arg8.view.loc (c : Thread nD τ) ↦[arg8.view.set]{fullShare} X8)
    ∗ (arg17.view.loc (c : Thread nD τ) ↦[arg17.view.set]{fullShare} X17)
    ∗ (arg13.view.loc (c : Thread nD τ) ↦[arg13.view.set]{fullShare} harg13.unread (outStep arg0 (arg1.view.read (Elt Ideal) X1)
        (arg3.view.read (Elt Ideal) X3) (arg4.view.read (Elt Ideal) X4) (arg8.view.read (Elt Ideal) X8)
        (arg17.view.read (Elt Ideal) X17) (arg13.view.read (Elt Ideal) G))))
  exit _ := by
    show inv_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 X1 X3 X4 X8 X17 G 8 _ ⊢ _
    have ho := off26_eq
    have e1 := fun k => rowsAt_eq k (arg1.view.read (Elt Ideal) X1) (k0_off26_inb k) (ho k)
    have e17 := fun k => rowsAt_eq k (arg17.view.read (Elt Ideal) X17) (k0_off26_inb k) (ho k)
    have e3 := whole_eq (arg3.view.read (Elt Ideal) X3) inb_S768x8_S768x8_0_0 (by decide)
    have e4 := whole_eq (arg4.view.read (Elt Ideal) X4) inb_S1x8_S1x8_0_0 (by decide)
    have e8 := whole_eq (arg8.view.read (Elt Ideal) X8) inb_S1x768x768_S1x768x768_0_0_0 (by decide)
    have hr := out_read harg13 arg0 (arg1.view.read (Elt Ideal) X1)
      (arg3.view.read (Elt Ideal) X3) (arg4.view.read (Elt Ideal) X4) (arg8.view.read (Elt Ideal) X8)
      (arg17.view.read (Elt Ideal) X17)
      (pb_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 X1 X3 X4 X8 X17 G)
      (fun k => k0_off26 k) (fun k => k0_off26_inb k) ho G rfl
      (fun k => (pb_k0_t14_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 X1 X3 X4 X8 X17 G k).trans (by
        unfold tripL_k0_t14 trip_k0_t14; dsimp only; sl_unfold_words
        rw [← e1, ← e17]
        conv_rhs => rw [← e3, ← e4, ← e8]
        rfl))
    iintro ⟨H1, H3, H4, H8, H17, ⟨%f, H13, %hf⟩⟩
    subst hf
    rw [← hr]
    isplitl [H1]; · iexact H1
    isplitl [H3]; · iexact H3
    isplitl [H4]; · iexact H4
    isplitl [H8]; · iexact H8
    isplitl [H17]; · iexact H17
    iexact H13

variable (K : Vec Ideal S2048x64 .bf16) (V : Vec Ideal S2048x128 .bf16) (X : BufTy.Contents (Elt Ideal) arg14.view.ty)
  (G : BufTy.Contents (Elt Ideal) arg17.view.ty)

instance exit_t2 : LoopExit (loopInv_k0_t2 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 0 K V X G
  exit _ := head_exit harg17 0 K V X G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off14 · 1#32) (k0_off14 · 0#32) (k0_off14_inb · 1) (k0_off14_inb · 0) (by decide +kernel) (by decide +kernel) rfl
    fun k => (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t2 trip_k0_t2; dsimp only; sl_unfold_words; rfl)

instance exit_t3 : LoopExit (loopInv_k0_t3 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 1 K V X G
  exit _ := head_exit harg17 1 K V X G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off15 · 1#32) (k0_off15 · 0#32) (k0_off15_inb · 1) (k0_off15_inb · 0) (by decide +kernel) (by decide +kernel) rfl
    fun k => (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t3 trip_k0_t3; dsimp only; sl_unfold_words; rfl)

instance exit_t4 : LoopExit (loopInv_k0_t4 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 2 K V X G
  exit _ := head_exit harg17 2 K V X G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off16 · 1#32) (k0_off16 · 0#32) (k0_off16_inb · 1) (k0_off16_inb · 0) (by decide +kernel) (by decide +kernel) rfl
    fun k => (pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t4 trip_k0_t4; dsimp only; sl_unfold_words; rfl)

instance exit_t5 : LoopExit (loopInv_k0_t5 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 3 K V X G
  exit _ := head_exit harg17 3 K V X G (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off17 · 1#32) (k0_off17 · 0#32) (k0_off17_inb · 1) (k0_off17_inb · 0) (by decide +kernel) (by decide +kernel) rfl
    fun k => (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t5 trip_k0_t5; dsimp only; sl_unfold_words; rfl)

instance exit_t6 : LoopExit (loopInv_k0_t6 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 4 K V X G
  exit _ := head_exit harg17 4 K V X G (pb_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off18 · 1#32) (k0_off18 · 0#32) (k0_off18_inb · 1) (k0_off18_inb · 0) (by decide +kernel) (by decide +kernel) rfl
    fun k => (pb_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t6 trip_k0_t6; dsimp only; sl_unfold_words; rfl)

instance exit_t7 : LoopExit (loopInv_k0_t7 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 5 K V X G
  exit _ := head_exit harg17 5 K V X G (pb_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off19 · 1#32) (k0_off19 · 0#32) (k0_off19_inb · 1) (k0_off19_inb · 0) (by decide +kernel) (by decide +kernel) rfl
    fun k => (pb_k0_t7_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t7 trip_k0_t7; dsimp only; sl_unfold_words; rfl)

instance exit_t8 : LoopExit (loopInv_k0_t8 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 6 K V X G
  exit _ := head_exit harg17 6 K V X G (pb_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off20 · 1#32) (k0_off20 · 0#32) (k0_off20_inb · 1) (k0_off20_inb · 0) (by decide +kernel) (by decide +kernel) rfl
    fun k => (pb_k0_t8_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t8 trip_k0_t8; dsimp only; sl_unfold_words; rfl)

instance exit_t9 : LoopExit (loopInv_k0_t9 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 7 K V X G
  exit _ := head_exit harg17 7 K V X G (pb_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off21 · 1#32) (k0_off21 · 0#32) (k0_off21_inb · 1) (k0_off21_inb · 0) (by decide +kernel) (by decide +kernel) rfl
    fun k => (pb_k0_t9_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t9 trip_k0_t9; dsimp only; sl_unfold_words; rfl)

instance exit_t10 : LoopExit (loopInv_k0_t10 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 8 K V X G
  exit _ := head_exit harg17 8 K V X G (pb_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off22 · 1#32) (k0_off22 · 0#32) (k0_off22_inb · 1) (k0_off22_inb · 0) (by decide +kernel) (by decide +kernel) rfl
    fun k => (pb_k0_t10_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t10 trip_k0_t10; dsimp only; sl_unfold_words; rfl)

instance exit_t11 : LoopExit (loopInv_k0_t11 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 9 K V X G
  exit _ := head_exit harg17 9 K V X G (pb_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off23 · 1#32) (k0_off23 · 0#32) (k0_off23_inb · 1) (k0_off23_inb · 0) (by decide +kernel) (by decide +kernel) rfl
    fun k => (pb_k0_t11_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t11 trip_k0_t11; dsimp only; sl_unfold_words; rfl)

instance exit_t12 : LoopExit (loopInv_k0_t12 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 10 K V X G
  exit _ := head_exit harg17 10 K V X G (pb_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off24 · 1#32) (k0_off24 · 0#32) (k0_off24_inb · 1) (k0_off24_inb · 0) (by decide +kernel) (by decide +kernel) rfl
    fun k => (pb_k0_t12_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t12 trip_k0_t12; dsimp only; sl_unfold_words; rfl)

instance exit_t13 : LoopExit (loopInv_k0_t13 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X G) where
  post _ := headPost c arg14 arg17 harg17 11 K V X G
  exit _ := head_exit harg17 11 K V X G (pb_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X)
    (k0_off25 · 1#32) (k0_off25 · 0#32) (k0_off25_inb · 1) (k0_off25_inb · 0) (by decide +kernel) (by decide +kernel) rfl
    fun k => (pb_k0_t13_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V X k).trans (by
      unfold tripL_k0_t13 trip_k0_t13; dsimp only; sl_unfold_words; rfl)

end

end Cert.KernelIdeal.Val
-- ==== Proof.Heads.lean ====
/-
The twelve heads' outputs side by side: replacing one head's columns after another leaves one array that no longer
depends on what the buffer held before.
-/
module

public import proofs.«01_k».proof.Proof.LoopVals

@[expose] public section

noncomputable section

namespace Cert.KernelIdeal.Val

open Idealize.ShloMosaic Idealize.ShloMosaic.TcCoe Idealize.ShloMosaic.Tactic
open Cert.KernelIdeal Cert.KernelIdeal.Gen

/-- Head `h`'s 64 columns of the keys. -/
def kSlice (h : Fin 12) (K : Vec Ideal S2048x768 .bf16) : Vec Ideal S2048x64 .bf16 :=
  fun z => K (ix2 (z 0) ⟨64 * h.val + (z 1).val, by have : (z 1).val < 64 := (z 1).isLt; omega⟩)

/-- Head `h`'s 128 columns of the values (the last 64 of them are the ones column and zeros). -/
def vSlice (h : Fin 12) (V : Vec Ideal S2048x1536 .bf16) : Vec Ideal S2048x128 .bf16 :=
  fun z => V (ix2 (z 0) ⟨128 * h.val + (z 1).val, by have : (z 1).val < 128 := (z 1).isLt; omega⟩)

theorem kSlice_eq (h : Fin 12) (K : Vec Ideal S2048x768 .bf16) {o : Fin 2 → ℕ}
    (inb : ∀ a, o a + S2048x64.size a ≤ S2048x768.size a) (ho : o = ![0, 64 * h.val]) :
    (fun z => K ((Rect.unit (s := S2048x768) o S2048x64.size inb).emb z)) = kSlice h K := by
  subst ho
  funext z
  unfold kSlice
  congr 1
  funext i
  apply Fin.ext
  fin_cases i
  · show 0 + 1 * (z 0).val = (z 0).val
    omega
  · show 64 * h.val + 1 * (z 1).val = 64 * h.val + (z 1).val
    omega

theorem vSlice_eq (h : Fin 12) (V : Vec Ideal S2048x1536 .bf16) {o : Fin 2 → ℕ}
    (inb : ∀ a, o a + S2048x128.size a ≤ S2048x1536.size a) (ho : o = ![0, 128 * h.val]) :
    (fun z => V ((Rect.unit (s := S2048x1536) o S2048x128.size inb).emb z)) = vSlice h V := by
  subst ho
  funext z
  unfold vSlice
  congr 1
  funext i
  apply Fin.ext
  fin_cases i
  · show 0 + 1 * (z 0).val = (z 0).val
    omega
  · show 128 * h.val + 1 * (z 1).val = 128 * h.val + (z 1).val
    omega

/-- The head a column belongs to. -/
def headAt (c : Fin 768) : Fin 12 := ⟨c.val / 64, by omega⟩

/-- All heads' outputs of one expert. -/
def accArr (Q K : Vec Ideal S2048x768 .bf16) (V : Vec Ideal S2048x1536 .bf16) : Vec Ideal S2048x768 .bf16 :=
  fun y => headFn (headAt (y 1)) (kSlice (headAt (y 1)) K) (vSlice (headAt (y 1)) V) Q y

/-- The columns of the first `n` heads are in place. -/
def AccTo (Q K : Vec Ideal S2048x768 .bf16) (V : Vec Ideal S2048x1536 .bf16) (n : ℕ) (A : Vec Ideal S2048x768 .bf16) : Prop :=
  ∀ y : S2048x768.Idx, (y 1).val < 64 * n → A y = accArr Q K V y

variable {Q K A : Vec Ideal S2048x768 .bf16} {V : Vec Ideal S2048x1536 .bf16}

theorem AccTo.zero : AccTo Q K V 0 A := fun _ h => absurd h (by omega)

theorem AccTo.step (h : Fin 12) {n n' : ℕ} {K' : Vec Ideal S2048x64 .bf16} {V' : Vec Ideal S2048x128 .bf16} (hA : AccTo Q K V n A)
    (hn : n = h.val) (hn' : n' = h.val + 1) (hK : K' = kSlice h K) (hV : V' = vSlice h V) :
    AccTo Q K V n' (headUpd h K' V' Q A) := by
  subst hn hn' hK hV
  intro y hy
  unfold headUpd
  split_ifs with hc
  · have : headAt (y 1) = h := Fin.ext (by show (y 1).val / 64 = h.val; omega)
    unfold accArr
    rw [this]
  · exact hA y (by omega)

theorem AccTo.eq (hA : AccTo Q K V 12 A) : A = accArr Q K V :=
  funext fun y => hA y (y 1).isLt

/-- A whole-buffer store reads back as what was stored. -/
theorem store_read {sp : Space} {s : Shape} {e : EltTy} (m : Memref sig .tc sp s e) {o : Fin s.rank → ℕ}
    (inb : ∀ a, o a + s.size a ≤ s.size a) (ho : ∀ a, o a = 0) (p : s.Idx → Elt Ideal e) (G : m.view.ty.Contents (Elt Ideal)) :
    m.view.read (Elt Ideal) (m.view.writes (Elt Ideal) G [⟨Rect.unit (s := s) o s.size inb, p⟩]) = p := by
  have he : ∀ y, (Rect.unit (s := s) o s.size inb).emb y = y := fun y => by
    funext i
    apply Fin.ext
    show o i + 1 * (y i).val = (y i).val
    rw [ho]
    omega
  have hc := Covers.unit (G := p) inb p rfl (fun y => by rw [he])
  funext y
  exact hc.read_of m.view G (fun a => by rw [ho]; exact ⟨Nat.zero_le _, by have := (y a).isLt; omega⟩)

/-- A load of a whole buffer reads all of it. -/
theorem whole_load {sp : Space} {s : Shape} {e : EltTy} {m : Memref sig .tc sp s e} (hm : m.IsWhole) {o : Fin s.rank → ℕ}
    (inb : ∀ a, o a + s.size a ≤ s.size a) (ho : ∀ a, o a = 0) (X : s.Idx → Elt Ideal e) :
    m.view.readAt (Elt Ideal) (Rect.unit (s := s) o s.size inb).toLoadRect (hm.unread X) = X := by
  show (fun z => m.view.read (Elt Ideal) (hm.unread X) ((Rect.unit (s := s) o s.size inb).emb z)) = X
  rw [hm.read_unread]
  exact whole_eq X inb ho

/-- A load of one head's columns of the keys, and of the values. -/
theorem k_load {sp : Space} {m : Memref sig .tc sp S2048x768 .bf16} (hm : m.IsWhole) (h : Fin 12) (K : Vec Ideal S2048x768 .bf16)
    {o : Fin 2 → ℕ} (inb : ∀ a, o a + S2048x64.size a ≤ S2048x768.size a) (ho : o = ![0, 64 * h.val]) :
    m.view.readAt (Elt Ideal) (Rect.unit (s := S2048x768) o S2048x64.size inb).toLoadRect (hm.unread K) = kSlice h K := by
  show (fun z => m.view.read (Elt Ideal) (hm.unread K) ((Rect.unit (s := S2048x768) o S2048x64.size inb).emb z)) = _
  rw [hm.read_unread]
  exact kSlice_eq h K inb ho

theorem v_load {sp : Space} {m : Memref sig .tc sp S2048x1536 .bf16} (hm : m.IsWhole) (h : Fin 12) (V : Vec Ideal S2048x1536 .bf16)
    {o : Fin 2 → ℕ} (inb : ∀ a, o a + S2048x128.size a ≤ S2048x1536.size a) (ho : o = ![0, 128 * h.val]) :
    m.view.readAt (Elt Ideal) (Rect.unit (s := S2048x1536) o S2048x128.size inb).toLoadRect (hm.unread V) = vSlice h V := by
  show (fun z => m.view.read (Elt Ideal) (hm.unread V) ((Rect.unit (s := S2048x1536) o S2048x128.size inb).emb z)) = _
  rw [hm.read_unread]
  exact vSlice_eq h V inb ho

end Cert.KernelIdeal.Val
-- ==== Proof.Body.lean ====
/-
One grid point of the kernel, run: from the blocks it is given and what the points before it left, to what it leaves.
The first point prepares the values' ones and the rotation's cosines and sines and clears the output; every later point
finds them.
-/
module

public import proofs.«01_k».proof.Proof.Heads
public import proofs.«01_k».proof.Proof.Gen.KernelIdeal.Frame.Runs

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- All heads' outputs of one expert from the kernel's blocks and the buffers the points share. -/
def expertAcc (x : Vec Ideal S2048x768 .bf16) (wq wk wv : Vec Ideal S1x768x768 .bf16) (qg qb kg kb : Vec Ideal S1x1x768 .f32)
    (V0 : Vec Ideal S2048x1536 .bf16) (cosb sinb : Vec Ideal S2048x768 .bf16) : Vec Ideal S2048x768 .bf16 :=
  accArr (qArr x wq qg qb cosb sinb) (kArr x wk kg kb cosb sinb) (vArr x wv V0)

section

variable (c : Dev nD) (i : grid0.Coords)
  (arg1 : Memref sig .tc .vmem S2048x768 .bf16) (harg1 : arg1.IsWhole) (arg2 : Memref sig .tc .vmem S2048x768 .bf16)
  (harg2 : arg2.IsWhole) (arg3 : Memref sig .tc .vmem S768x8 .bf16) (harg3 : arg3.IsWhole)
  (arg4 : Memref sig .tc .vmem S1x8 .f32) (harg4 : arg4.IsWhole) (arg5 : Memref sig .tc .vmem S1x768x768 .bf16)
  (harg5 : arg5.IsWhole) (arg6 : Memref sig .tc .vmem S1x768x768 .bf16) (harg6 : arg6.IsWhole)
  (arg7 : Memref sig .tc .vmem S1x768x768 .bf16) (harg7 : arg7.IsWhole) (arg8 : Memref sig .tc .vmem S1x768x768 .bf16)
  (harg8 : arg8.IsWhole) (arg9 : Memref sig .tc .vmem S1x1x768 .f32) (harg9 : arg9.IsWhole)
  (arg10 : Memref sig .tc .vmem S1x1x768 .f32) (harg10 : arg10.IsWhole) (arg11 : Memref sig .tc .vmem S1x1x768 .f32)
  (harg11 : arg11.IsWhole) (arg12 : Memref sig .tc .vmem S1x1x768 .f32) (harg12 : arg12.IsWhole)
  (arg13 : Memref sig .tc .vmem S2048x768 .f32) (harg13 : arg13.IsWhole)
  (arg14 : Memref sig .tc .vmem S2048x768 .bf16) (harg14 : arg14.IsWhole)
  (arg15 : Memref sig .tc .vmem S2048x768 .bf16) (harg15 : arg15.IsWhole)
  (arg16 : Memref sig .tc .vmem S2048x1536 .bf16) (harg16 : arg16.IsWhole)
  (arg17 : Memref sig .tc .vmem S2048x768 .bf16) (harg17 : arg17.IsWhole)
  (arg18 : Memref sig .tc .vmem S2048x768 .bf16) (harg18 : arg18.IsWhole)
  (arg19 : Memref sig .tc .vmem S2048x768 .bf16) (harg19 : arg19.IsWhole)
  (x0 : Vec Ideal S2048x768 .bf16) (x1 : Vec Ideal S2048x768 .bf16) (x2 : Vec Ideal S768x8 .bf16) (x3 : Vec Ideal S1x8 .f32)
  (x4 : Vec Ideal S1x768x768 .bf16) (x5 : Vec Ideal S1x768x768 .bf16) (x6 : Vec Ideal S1x768x768 .bf16)
  (x7 : Vec Ideal S1x768x768 .bf16) (x8 : Vec Ideal S1x1x768 .f32) (x9 : Vec Ideal S1x1x768 .f32) (x10 : Vec Ideal S1x1x768 .f32)
  (x11 : Vec Ideal S1x1x768 .f32)

set_option maxHeartbeats 4000000 in
/-- The first point: from buffers holding anything. -/
theorem bodyA (hc0 : cond0_0 i) (hc1 : cond0_1 i)
    (E : Set ℕ) (P : PUnit → sProp 𝕄) :
    iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ (∃ d, owns (c : Thread nD τ) arg13 fullShare d) ∗ (∃ d, owns (c : Thread nD τ) arg14 fullShare d)
    ∗ (∃ d, owns (c : Thread nD τ) arg15 fullShare d) ∗ (∃ d, owns (c : Thread nD τ) arg16 fullShare d)
    ∗ (∃ d, owns (c : Thread nD τ) arg17 fullShare d) ∗ (∃ d, owns (c : Thread nD τ) arg18 fullShare d)
    ∗ (∃ d, owns (c : Thread nD τ) arg19 fullShare d)
    ∗ (iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
      ∗ owns (c : Thread nD τ) arg13 fullShare (outStep (BitVec.ofNat 32 (i 0).val) x0 x2 x3 x7
        (expertAcc x0 x4 x5 x6 x8 x9 x10 x11 onesArr (cosArr x1) (sinArr x1)) (k0_pay4 (F := Ideal))) ∗ (∃ d, owns (c : Thread nD τ) arg14 fullShare d)
    ∗ (∃ d, owns (c : Thread nD τ) arg15 fullShare d) ∗ owns (c : Thread nD τ) arg16 fullShare (vArr x0 x6 onesArr)
    ∗ (∃ d, owns (c : Thread nD τ) arg17 fullShare d) ∗ owns (c : Thread nD τ) arg18 fullShare (cosArr x1)
    ∗ owns (c : Thread nD τ) arg19 fullShare (sinArr x1)) -∗ P ⟨⟩))
      ⊢ wp frame (wpE (defs₀ (F := Ideal)) Variants.none c none) E (cc0__moe_attn_kernel (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) P := by
  simp only [cc0__moe_attn_kernel_eq_skeleton]; unfold cc0__moe_attn_kernel_skel
  simp only [k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1)
  sl_exec (disch := first | sl_exact hc0 | sl_exact hc1)
  sl_step
  iapply Hk
  isplitl [HL37]
  · iexists _; isplitr; · ipureintro; exact harg1.read_unread _
    iexact HL37
  isplitl [H1]
  · iexists _; isplitr; · ipureintro; exact harg2.read_unread _
    iexact H1
  isplitl [HL38]
  · iexists _; isplitr; · ipureintro; exact harg3.read_unread _
    iexact HL38
  isplitl [HL39]
  · iexists _; isplitr; · ipureintro; exact harg4.read_unread _
    iexact HL39
  isplitl [HL1]
  · iexists _; isplitr; · ipureintro; exact harg5.read_unread _
    iexact HL1
  isplitl [HL2]
  · iexists _; isplitr; · ipureintro; exact harg6.read_unread _
    iexact HL2
  isplitl [HL3]
  · iexists _; isplitr; · ipureintro; exact harg7.read_unread _
    iexact HL3
  isplitl [HL40]
  · iexists _; isplitr; · ipureintro; exact harg8.read_unread _
    iexact HL40
  isplitl [HL4]
  · iexists _; isplitr; · ipureintro; exact harg9.read_unread _
    iexact HL4
  isplitl [HL5]
  · iexists _; isplitr; · ipureintro; exact harg10.read_unread _
    iexact HL5
  isplitl [HL6]
  · iexists _; isplitr; · ipureintro; exact harg11.read_unread _
    iexact HL6
  isplitl [HL7]
  · iexists _; isplitr; · ipureintro; exact harg12.read_unread _
    iexact HL7
  isplitl [HL42]
  · iexists _; isplitr; swap; · iexact HL42
    ipureintro
    refine (harg13.read_unread _).trans ?_
    sl_unfold_words
    simp only [harg1.read_unread, harg3.read_unread, harg4.read_unread, harg5.read_unread, harg6.read_unread, harg7.read_unread,
      harg8.read_unread, harg9.read_unread, harg10.read_unread, harg11.read_unread, harg12.read_unread, harg13.read_unread,
      harg14.read_unread, harg15.read_unread, harg16.read_unread, harg17.read_unread, harg18.read_unread, harg19.read_unread,
      whole_load harg2 inb_S2048x768_S2048x768_0_0 (by decide), store_read arg18 inb_S2048x768_S2048x768_0_0 (by decide),
      store_read arg19 inb_S2048x768_S2048x768_0_0 (by decide), store_read arg16 inb_S2048x1536_S2048x1536_0_0 (by decide),
      store_read arg13 inb_S2048x768_S2048x768_0_0 (by decide), ones_block, cos_block, sin_block]
    unfold expertAcc
    congr 1
    exact AccTo.eq (.step 11 (.step 10 (.step 9 (.step 8 (.step 7 (.step 6 (.step 5 (.step 4 (.step 3 (.step 2 (.step 1 (.step 0 .zero rfl rfl (k_load harg15 0 _ _ rfl)
      (v_load harg16 0 _ _ rfl)) rfl rfl (k_load harg15 1 _ _ rfl) (v_load harg16 1 _ _ rfl)) rfl rfl (k_load harg15 2 _ _ rfl)
      (v_load harg16 2 _ _ rfl)) rfl rfl (k_load harg15 3 _ _ rfl) (v_load harg16 3 _ _ rfl)) rfl rfl (k_load harg15 4 _ _ rfl)
      (v_load harg16 4 _ _ rfl)) rfl rfl (k_load harg15 5 _ _ rfl) (v_load harg16 5 _ _ rfl)) rfl rfl (k_load harg15 6 _ _ rfl)
      (v_load harg16 6 _ _ rfl)) rfl rfl (k_load harg15 7 _ _ rfl) (v_load harg16 7 _ _ rfl)) rfl rfl (k_load harg15 8 _ _ rfl)
      (v_load harg16 8 _ _ rfl)) rfl rfl (k_load harg15 9 _ _ rfl) (v_load harg16 9 _ _ rfl)) rfl rfl (k_load harg15 10 _ _ rfl)
      (v_load harg16 10 _ _ rfl)) rfl rfl (k_load harg15 11 _ _ rfl) (v_load harg16 11 _ _ rfl))
  isplitl [HL35]
  · iexists _, _; isplitr; swap; · iexact HL35
    ipureintro; rfl
  isplitl [HL11]
  · iexists _, _; isplitr; swap; · iexact HL11
    ipureintro; rfl
  isplitl [HL12]
  · iexists _; isplitr; swap; · iexact HL12
    ipureintro
    sl_unfold_words
    simp only [harg1.read_unread, harg7.read_unread, harg16.read_unread,
      store_read arg16 inb_S2048x1536_S2048x1536_0_0 (by decide), ones_block]
  isplitl [HL41]
  · iexists _, _; isplitr; swap; · iexact HL41
    ipureintro; rfl
  isplitl [HL8]
  · iexists _; isplitr; swap; · iexact HL8
    ipureintro
    sl_unfold_words
    simp only [whole_load harg2 inb_S2048x768_S2048x768_0_0 (by decide),
      store_read arg18 inb_S2048x768_S2048x768_0_0 (by decide), cos_block]
  iexists _; isplitr; swap; · iexact HL9
  ipureintro
  sl_unfold_words
  simp only [whole_load harg2 inb_S2048x768_S2048x768_0_0 (by decide),
      store_read arg19 inb_S2048x768_S2048x768_0_0 (by decide), sin_block]

set_option maxHeartbeats 4000000 in
/-- A later point: the values' buffer keeps its other lanes, the rotation's buffers stay, the output grows by the expert. -/
theorem bodyB (hc0 : ¬cond0_0 i) (hc1 : ¬cond0_1 i)
    (xo : Vec Ideal S2048x768 .f32) (V0 : Vec Ideal S2048x1536 .bf16) (cosb sinb : Vec Ideal S2048x768 .bf16)
    (E : Set ℕ) (P : PUnit → sProp 𝕄) :
    iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare (xo) ∗ (∃ d, owns (c : Thread nD τ) arg14 fullShare d)
    ∗ (∃ d, owns (c : Thread nD τ) arg15 fullShare d) ∗ owns (c : Thread nD τ) arg16 fullShare (V0)
    ∗ (∃ d, owns (c : Thread nD τ) arg17 fullShare d) ∗ owns (c : Thread nD τ) arg18 fullShare (cosb)
    ∗ owns (c : Thread nD τ) arg19 fullShare (sinb)
    ∗ (iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
      ∗ owns (c : Thread nD τ) arg13 fullShare (outStep (BitVec.ofNat 32 (i 0).val) x0 x2 x3 x7 (expertAcc x0 x4 x5 x6 x8 x9 x10 x11 V0 cosb sinb) xo) ∗ (∃ d, owns (c : Thread nD τ) arg14 fullShare d)
    ∗ (∃ d, owns (c : Thread nD τ) arg15 fullShare d) ∗ owns (c : Thread nD τ) arg16 fullShare (vArr x0 x6 V0)
    ∗ (∃ d, owns (c : Thread nD τ) arg17 fullShare d) ∗ owns (c : Thread nD τ) arg18 fullShare (cosb)
    ∗ owns (c : Thread nD τ) arg19 fullShare (sinb)) -∗ P ⟨⟩))
      ⊢ wp frame (wpE (defs₀ (F := Ideal)) Variants.none c none) E (cc0__moe_attn_kernel (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) P := by
  simp only [cc0__moe_attn_kernel_eq_skeleton]; unfold cc0__moe_attn_kernel_skel
  simp only [k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%fs2, %hfs2, HS2⟩, ⟨%ds3, %fs3, -, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  obtain rfl := harg13.eq_unread hf12; obtain rfl := harg16.eq_unread hfs2; obtain rfl := harg18.eq_unread hfs4
  obtain rfl := harg19.eq_unread hfs5
  sl_exec (disch := first | sl_exact hc0 | sl_exact hc1)
  sl_exec (disch := first | sl_exact hc0 | sl_exact hc1)
  sl_step
  iapply Hk
  isplitl [HL37]
  · iexists _; isplitr; · ipureintro; exact harg1.read_unread _
    iexact HL37
  isplitl [H1]
  · iexists _; isplitr; · ipureintro; exact harg2.read_unread _
    iexact H1
  isplitl [HL38]
  · iexists _; isplitr; · ipureintro; exact harg3.read_unread _
    iexact HL38
  isplitl [HL39]
  · iexists _; isplitr; · ipureintro; exact harg4.read_unread _
    iexact HL39
  isplitl [HL1]
  · iexists _; isplitr; · ipureintro; exact harg5.read_unread _
    iexact HL1
  isplitl [HL2]
  · iexists _; isplitr; · ipureintro; exact harg6.read_unread _
    iexact HL2
  isplitl [HL3]
  · iexists _; isplitr; · ipureintro; exact harg7.read_unread _
    iexact HL3
  isplitl [HL40]
  · iexists _; isplitr; · ipureintro; exact harg8.read_unread _
    iexact HL40
  isplitl [HL4]
  · iexists _; isplitr; · ipureintro; exact harg9.read_unread _
    iexact HL4
  isplitl [HL5]
  · iexists _; isplitr; · ipureintro; exact harg10.read_unread _
    iexact HL5
  isplitl [HL6]
  · iexists _; isplitr; · ipureintro; exact harg11.read_unread _
    iexact HL6
  isplitl [HL7]
  · iexists _; isplitr; · ipureintro; exact harg12.read_unread _
    iexact HL7
  isplitl [HL42]
  · iexists _; isplitr; swap; · iexact HL42
    ipureintro
    refine (harg13.read_unread _).trans ?_
    sl_unfold_words
    simp only [harg1.read_unread, harg3.read_unread, harg4.read_unread, harg5.read_unread, harg6.read_unread, harg7.read_unread,
      harg8.read_unread, harg9.read_unread, harg10.read_unread, harg11.read_unread, harg12.read_unread, harg13.read_unread,
      harg14.read_unread, harg15.read_unread, harg16.read_unread, harg17.read_unread, harg18.read_unread, harg19.read_unread]
    unfold expertAcc
    congr 1
    exact AccTo.eq (.step 11 (.step 10 (.step 9 (.step 8 (.step 7 (.step 6 (.step 5 (.step 4 (.step 3 (.step 2 (.step 1 (.step 0 .zero rfl rfl (k_load harg15 0 _ _ rfl)
      (v_load harg16 0 _ _ rfl)) rfl rfl (k_load harg15 1 _ _ rfl) (v_load harg16 1 _ _ rfl)) rfl rfl (k_load harg15 2 _ _ rfl)
      (v_load harg16 2 _ _ rfl)) rfl rfl (k_load harg15 3 _ _ rfl) (v_load harg16 3 _ _ rfl)) rfl rfl (k_load harg15 4 _ _ rfl)
      (v_load harg16 4 _ _ rfl)) rfl rfl (k_load harg15 5 _ _ rfl) (v_load harg16 5 _ _ rfl)) rfl rfl (k_load harg15 6 _ _ rfl)
      (v_load harg16 6 _ _ rfl)) rfl rfl (k_load harg15 7 _ _ rfl) (v_load harg16 7 _ _ rfl)) rfl rfl (k_load harg15 8 _ _ rfl)
      (v_load harg16 8 _ _ rfl)) rfl rfl (k_load harg15 9 _ _ rfl) (v_load harg16 9 _ _ rfl)) rfl rfl (k_load harg15 10 _ _ rfl)
      (v_load harg16 10 _ _ rfl)) rfl rfl (k_load harg15 11 _ _ rfl) (v_load harg16 11 _ _ rfl))
  isplitl [HL35]
  · iexists _, _; isplitr; swap; · iexact HL35
    ipureintro; rfl
  isplitl [HL11]
  · iexists _, _; isplitr; swap; · iexact HL11
    ipureintro; rfl
  isplitl [HL12]
  · iexists _; isplitr; swap; · iexact HL12
    ipureintro
    simp only [harg1.read_unread, harg7.read_unread, harg16.read_unread]
  isplitl [HL41]
  · iexists _, _; isplitr; swap; · iexact HL41
    ipureintro; rfl
  isplitl [HL8]
  · iexists _; isplitr; swap; · iexact HL8
    ipureintro
    exact harg18.read_unread _
  iexists _; isplitr; swap; · iexact HL9
  ipureintro
  exact harg19.read_unread _

end

end Cert.KernelIdeal.Val
-- ==== Proof.Region.lean ====
/-
The kernel's region, run: the expert's contribution point by point, the buffers the points share, the launch, and what the
whole program leaves unchanged.
-/
module

public import proofs.«01_k».proof.Proof.Body
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What the points leave -/

/-- The first point of the grid. -/
def pt0 : Fin cfg0.N := ⟨0, lt_of_lt_of_eq (by decide) (show cfg0.N = 8 from N_0).symm⟩

/-- The cosines and the sines every point uses: the first point prepares them. -/
def cosAll (c : Dev nD) : Vec Ideal S2048x768 .bf16 := cosArr (iblk m c 1 pt0)
def sinAll (c : Dev nD) : Vec Ideal S2048x768 .bf16 := sinArr (iblk m c 1 pt0)

/-- The output after point `t`, over what it held before. -/
def pointOut (c : Dev nD) (t : Fin cfg0.N) (old : Vec Ideal S2048x768 .f32) : Vec Ideal S2048x768 .f32 :=
  outStep (BitVec.ofNat 32 (grid0.coords t 0).val) (iblk m c 0 t) (iblk m c 2 t) (iblk m c 3 t) (iblk m c 7 t)
    (expertAcc (iblk m c 0 t) (iblk m c 4 t) (iblk m c 5 t) (iblk m c 6 t) (iblk m c 8 t) (iblk m c 9 t) (iblk m c 10 t)
      (iblk m c 11 t) onesArr (cosAll m c) (sinAll m c)) old

/-- The output after the points up to `n`. -/
def outAt (c : Dev nD) : (n : ℕ) → n < cfg0.N → Vec Ideal S2048x768 .f32
  | 0, hn => pointOut m c ⟨0, hn⟩ (k0_pay4 (F := Ideal))
  | n + 1, hn => pointOut m c ⟨n + 1, hn⟩ (outAt c n (Nat.lt_of_succ_lt hn))

theorem outAt_pos (c : Dev nD) (t : Fin cfg0.N) (hz : t.val ≠ 0) :
    outAt m c t.val t.isLt = pointOut m c t (outAt m c (t.val - 1) (Nat.lt_of_le_of_lt (Nat.sub_le _ _) t.isLt)) := by
  obtain ⟨n, hn⟩ := t
  cases n with
  | zero => exact absurd rfl hz
  | succ n => rfl

/-- The values' buffer keeps of its old contents only the lanes the loop never writes. -/
theorem vArr_vArr (x x' : Vec Ideal S2048x768 .bf16) (w w' : Vec Ideal S1x768x768 .bf16) (old : Vec Ideal S2048x1536 .bf16) :
    vArr x w (vArr x' w' old) = vArr x w old := by
  funext y
  unfold vArr
  split_ifs <;> rfl

theorem expertAcc_vArr (x x' : Vec Ideal S2048x768 .bf16) (wq wk wv w' : Vec Ideal S1x768x768 .bf16) (qg qb kg kb : Vec Ideal S1x1x768 .f32)
    (V0 : Vec Ideal S2048x1536 .bf16) (cosb sinb : Vec Ideal S2048x768 .bf16) :
    expertAcc x wq wk wv qg qb kg kb (vArr x' w' V0) cosb sinb = expertAcc x wq wk wv qg qb kg kb V0 cosb sinb := by
  unfold expertAcc
  rw [vArr_vArr]

/-- What the region's invariant holds before position `n`: at first every scratch buffer at anything; afterwards the
    values' buffer with its ones, and the cosines and sines. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d)
      ∗ owns (c : Thread nD τ) scM0_2 fullShare (vArr (iblk m c 0 ⟨n, hn⟩) (iblk m c 6 ⟨n, hn⟩) onesArr)
      ∗ (∃ d, owns (c : Thread nD τ) scM0_3 fullShare d) ∗ owns (c : Thread nD τ) scM0_4 fullShare (cosAll m c)
      ∗ owns (c : Thread nD τ) scM0_5 fullShare (sinAll m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d)
      ∗ owns (c : Thread nD τ) scM0_2 fullShare (vArr (iblk m c 0 ⟨n, hn⟩) (iblk m c 6 ⟨n, hn⟩) onesArr)
      ∗ (∃ d, owns (c : Thread nD τ) scM0_3 fullShare d) ∗ owns (c : Thread nD τ) scM0_4 fullShare (cosAll m c)
      ∗ owns (c : Thread nD τ) scM0_5 fullShare (sinAll m c)) ∗ (∃ r, prngReg c r)) := rfl

theorem PhiS_pos (c : Dev nD) (n : ℕ) (h : n ≤ cfg0.N) (hz : n ≠ 0) :
    ∃ (x : Vec Ideal S2048x768 .bf16) (w : Vec Ideal S1x768x768 .bf16),
    PhiS m c n h = iprop(iprop((∃ d, owns (c : Thread nD τ) scM0_0 fullShare d) ∗ (∃ d, owns (c : Thread nD τ) scM0_1 fullShare d)
      ∗ owns (c : Thread nD τ) scM0_2 fullShare (vArr x w onesArr)
      ∗ (∃ d, owns (c : Thread nD τ) scM0_3 fullShare d) ∗ owns (c : Thread nD τ) scM0_4 fullShare (cosAll m c)
      ∗ owns (c : Thread nD τ) scM0_5 fullShare (sinAll m c)) ∗ (∃ r, prngReg c r)) := by
  cases n with
  | zero => exact absurd rfl hz
  | succ n => exact ⟨_, _, rfl⟩

/-! ## The pipeline's proof data -/

/-- The arrays as the region finds them; after each point the inputs' buffers at their blocks and the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_out (c : Dev nD) (t : Fin cfg0.N) : (dats m 0 c).after 12 t = outAt m c t.val t.isLt := by dsimp only [dats]

/-- At a point after the first the output's buffer holds what the point before left. -/
theorem before_out (c : Dev nD) (t : Fin cfg0.N) (h0 : t.val ≠ 0) (d) :
    (dats m 0 c).before 12 t d = outAt m c (t.val - 1) (Nat.lt_of_le_of_lt (Nat.sub_le _ _) t.isLt) := by
  have hN : t.val < 8 := lt_of_lt_of_eq t.isLt (show cfg0.N = 8 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  have b0 : ∀ d, (dats m 0 c).before 0 t d = iblk m c 0 t := before0_0_of m (dats m 0 c) (A_eq m c 0) (fun t => by dsimp only [dats]) t
  have b1 : ∀ d, (dats m 0 c).before 1 t d = iblk m c 1 t := before0_1_of m (dats m 0 c) (A_eq m c 1) (fun t => by dsimp only [dats]) t
  have b2 : ∀ d, (dats m 0 c).before 2 t d = iblk m c 2 t := before0_2_of m (dats m 0 c) (A_eq m c 2) (fun t => by dsimp only [dats]) t
  have b3 : ∀ d, (dats m 0 c).before 3 t d = iblk m c 3 t := before0_3_of m (dats m 0 c) (A_eq m c 3) (fun t => by dsimp only [dats]) t
  have b4 : ∀ d, (dats m 0 c).before 4 t d = iblk m c 4 t := before0_4_of m (dats m 0 c) (A_eq m c 4) (fun t => by dsimp only [dats]) t
  have b5 : ∀ d, (dats m 0 c).before 5 t d = iblk m c 5 t := before0_5_of m (dats m 0 c) (A_eq m c 5) (fun t => by dsimp only [dats]) t
  have b6 : ∀ d, (dats m 0 c).before 6 t d = iblk m c 6 t := before0_6_of m (dats m 0 c) (A_eq m c 6) (fun t => by dsimp only [dats]) t
  have b7 : ∀ d, (dats m 0 c).before 7 t d = iblk m c 7 t := before0_7_of m (dats m 0 c) (A_eq m c 7) (fun t => by dsimp only [dats]) t
  have b8 : ∀ d, (dats m 0 c).before 8 t d = iblk m c 8 t := before0_8_of m (dats m 0 c) (A_eq m c 8) (fun t => by dsimp only [dats]) t
  have b9 : ∀ d, (dats m 0 c).before 9 t d = iblk m c 9 t := before0_9_of m (dats m 0 c) (A_eq m c 9) (fun t => by dsimp only [dats]) t
  have b10 : ∀ d, (dats m 0 c).before 10 t d = iblk m c 10 t := before0_10_of m (dats m 0 c) (A_eq m c 10) (fun t => by dsimp only [dats]) t
  have b11 : ∀ d, (dats m 0 c).before 11 t d = iblk m c 11 t := before0_11_of m (dats m 0 c) (A_eq m c 11) (fun t => by dsimp only [dats]) t
  have a0 : (dats m 0 c).after 0 t = iblk m c 0 t := by dsimp only [dats]
  have a1 : (dats m 0 c).after 1 t = iblk m c 1 t := by dsimp only [dats]
  have a2 : (dats m 0 c).after 2 t = iblk m c 2 t := by dsimp only [dats]
  have a3 : (dats m 0 c).after 3 t = iblk m c 3 t := by dsimp only [dats]
  have a4 : (dats m 0 c).after 4 t = iblk m c 4 t := by dsimp only [dats]
  have a5 : (dats m 0 c).after 5 t = iblk m c 5 t := by dsimp only [dats]
  have a6 : (dats m 0 c).after 6 t = iblk m c 6 t := by dsimp only [dats]
  have a7 : (dats m 0 c).after 7 t = iblk m c 7 t := by dsimp only [dats]
  have a8 : (dats m 0 c).after 8 t = iblk m c 8 t := by dsimp only [dats]
  have a9 : (dats m 0 c).after 9 t = iblk m c 9 t := by dsimp only [dats]
  have a10 : (dats m 0 c).after 10 t = iblk m c 10 t := by dsimp only [dats]
  have a11 : (dats m 0 c).after 11 t = iblk m c 11 t := by dsimp only [dats]
  have hN : t.val < 8 := lt_of_lt_of_eq t.isLt (show cfg0.N = 8 from N_0)
  unfold bodyPre bodyPost bodyAt0
  simp only [b0, b1, b2, b3, b4, b5, b6, b7, b8, b9, b10, b11]
  rw [show (dats m 0 c).owesAt () t.succ = (dats m 0 c).owesAt () t.castSucc from rfl,
    a0, a1, a2, a3, a4, a5, a6, a7, a8, a9, a10, a11, after_out]
  rw [show (dats m 0 c).Φ t.succ = PhiS m c (t.val + 1) t.isLt from rfl, PhiS_succ]
  by_cases hz : t.val = 0
  · obtain rfl : t = pt0 := Fin.ext hz
    have hc0 : cond0_0 (grid0.coords pt0) := (hcond0_0 pt0).mpr rfl
    have hc1 : cond0_1 (grid0.coords pt0) := (hcond0_1 pt0).mpr rfl
    have ho : outAt m c pt0.val pt0.isLt = outStep (BitVec.ofNat 32 (grid0.coords pt0 0).val) (iblk m c 0 pt0) (iblk m c 2 pt0)
        (iblk m c 3 pt0) (iblk m c 7 pt0) (expertAcc (iblk m c 0 pt0) (iblk m c 4 pt0) (iblk m c 5 pt0) (iblk m c 6 pt0)
          (iblk m c 8 pt0) (iblk m c 9 pt0) (iblk m c 10 pt0) (iblk m c 11 pt0) onesArr (cosArr (iblk m c 1 pt0))
          (sinArr (iblk m c 1 pt0))) (k0_pay4 (F := Ideal)) := rfl
    unfold cosAll sinAll
    rw [PhiS_castSucc m c pt0, PhiS_zero m c pt0.val _ rfl, PhiA0_eq]
    rw [ho]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyA c (grid0.coords pt0) _ _ _ _ _ _ _ _ _ _ _ _ _ _ _ _ _ _ _ _ _ _ _ _ _ _ _ _ _ _ _ _ _ _ _ _ _ _ (iblk m c 0 pt0) (iblk m c 1 pt0) (iblk m c 2 pt0) (iblk m c 3 pt0) (iblk m c 4 pt0) (iblk m c 5 pt0) (iblk m c 6 pt0) (iblk m c 7 pt0) (iblk m c 8 pt0) (iblk m c 9 pt0) (iblk m c 10 pt0) (iblk m c 11 pt0) hc0 hc1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have hc0 : ¬cond0_0 (grid0.coords t) := fun h => by have := (hcond0_0 t).mp h; omega
    have hc1 : ¬cond0_1 (grid0.coords t) := fun h => by have := (hcond0_1 t).mp h; omega
    obtain ⟨x, w, hPhi⟩ := PhiS_pos m c t.val (Nat.le_of_lt t.isLt) hz
    have hv := vArr_vArr (iblk m c 0 t) x (iblk m c 6 t) w onesArr
    have ho : outAt m c t.val t.isLt = outStep (BitVec.ofNat 32 (grid0.coords t 0).val) (iblk m c 0 t) (iblk m c 2 t) (iblk m c 3 t)
        (iblk m c 7 t) (expertAcc (iblk m c 0 t) (iblk m c 4 t) (iblk m c 5 t) (iblk m c 6 t) (iblk m c 8 t) (iblk m c 9 t)
          (iblk m c 10 t) (iblk m c 11 t) (vArr x w onesArr) (cosAll m c) (sinAll m c))
        (outAt m c (t.val - 1) (Nat.lt_of_le_of_lt (Nat.sub_le _ _) t.isLt)) := by
      rw [outAt_pos m c t hz, expertAcc_vArr]
      rfl
    rw [PhiS_castSucc m c t, hPhi]
    rw [ho, ← hv]
    simp only [before_out m c t hz]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyB c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) hc0 hc1 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-! ## The launch -/

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  obtain ⟨x, w, hPhi⟩ := PhiS_pos m c (Fin.last cfg0.N).val (Nat.le_of_lt_succ (Fin.last cfg0.N).isLt)
    (by rw [Fin.val_last]; have : cfg0.N = 8 := N_0; omega)
  rw [show (dats m 0 c).Φ (Fin.last cfg0.N) = PhiS m c (Fin.last cfg0.N).val (Nat.le_of_lt_succ (Fin.last cfg0.N).isLt) from rfl, hPhi, PhiA0_eq]
  iintro ⟨⟨HS0, HS1, HS2, HS3, HS4, HS5⟩, Hg⟩
  isplitl [HS0 HS1 HS2 HS3 HS4 HS5]
  · isplitl [HS0]; · iexact HS0
    isplitl [HS1]; · iexact HS1
    isplitl [HS2]; · iexists _; iexact HS2
    isplitl [HS3]; · iexact HS3
    isplitl [HS4]; · iexists _; iexact HS4
    iexists _; iexact HS5
  iexact Hg

set_option backward.isDefEq.respectTransparency.types false in
set_option maxHeartbeats 800000 in
/-- The whole program's run: every array of the pipeline ends at what the points left, everything else as the lines after
    the region leave it, and every semaphore at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The arguments end unchanged and every semaphore at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Val
-- ==== Proof.Host.lean ====
/-
What the kernel's host lines leave in the arrays its windows read, index by index.
-/
module

public import proofs.«01_k».proof.Proof.Gen.KernelIdeal.Frame.Runs
public import proofs.«01_k».proof.Proof.Maths
public import Idealize.ShloMosaic.Lib.StableHlo.RunRead
public import Idealize.ShloMosaic.Lib.Pointwise
public import Idealize.ShloMosaic.Lib.ValueIdxCore
public import Idealize.ShloMosaic.Lib.Claim

@[expose] public section

set_option maxRecDepth 16384

noncomputable section

namespace Cert.KernelIdeal.Val

open Idealize.ShloMosaic Idealize.ShloMosaic.TcCoe
open Idealize.SL Idealize.SL.Sem
open Cert.KernelIdeal Cert.KernelIdeal.Gen Cert.KernelIdeal.Maths

/-! ## The permutation of the columns -/

theorem lit0_perm : ∀ c : Fin 768, lit0 c = BitVec.ofNat 32 (permIx c).val := by decide +kernel

/-- The table of columns as the gathers take it. -/
def permTab : IVec S768x1 32 :=
  broadcastInDim S768x1 ![0] bcast_S768_S768x1_0 (fun i => lit0 (S768.rowMajor i))

theorem permTab_at (c : Fin 768) (y : S768x1.Idx) (hy : (y 0).val = c.val) : (permTab y).toInt.toNat = (permIx c).val := by
  have h1 : permTab y = lit0 c := by
    unfold permTab
    rw [broadcastInDim_apply ![0] bcast_S768_S768x1_0 _ y (ix1 c) (by
      intro a; fin_cases a; exact hy.symm)]
    exact congrArg lit0 (Fin.ext (by rw [Shape.rowMajor_val_one]; rfl))
  have h2 := (permIx c).isLt
  rw [h1, lit0_perm, BitVec.toInt_eq_toNat_of_lt (by rw [BitVec.toNat_ofNat]; omega), BitVec.toNat_ofNat]
  omega

theorem gather_mat (x : S8x768x768.Idx → EReal) (e : Fin 8) (k c : Fin 768) :
    Host.gather gather_S8x768x768_S768x1_S8x768x768_01_2_n_n_2_1_87681 x permTab (ix3 e k c) = x (ix3 e k (permIx c)) := by
  unfold Host.gather
  congr 1
  funext a
  refine Fin.ext ?_
  show GatherDims.start gather_S8x768x768_S768x1_S8x768x768_01_2_n_n_2_1_87681 (ix3 e k c) permTab a
    + GatherDims.batchCoord gather_S8x768x768_S768x1_S8x768x768_01_2_n_n_2_1_87681 (ix3 e k c) a
    + GatherDims.offCoord gather_S8x768x768_S768x1_S8x768x768_01_2_n_n_2_1_87681 (ix3 e k c) a = _
  rw [GatherDims.batchCoord_eq_zero _ _ _ List.not_mem_nil]
  match a with
  | ⟨0, h⟩ =>
    unfold GatherDims.start
    rw [dif_neg (by revert h; decide), Nat.zero_add]
    unfold GatherDims.offCoord
    rw [dif_pos (by revert h; decide)]
    rfl
  | ⟨1, h⟩ =>
    unfold GatherDims.start
    rw [dif_neg (by revert h; decide), Nat.zero_add]
    unfold GatherDims.offCoord
    rw [dif_pos (by revert h; decide)]
    rfl
  | ⟨2, h2⟩ =>
    rw [GatherDims.offCoord_eq_zero _ _ _ (fun h => ((GatherDims.mem_sKept _ _).mp h).1 (List.mem_singleton.mpr rfl))]
    unfold GatherDims.start
    rw [dif_pos (by revert h2; decide)]
    show min (permTab _).toInt.toNat 767 + 0 + 0 = _
    rw [permTab_at c _ rfl]
    show min (permIx c).val 767 + 0 + 0 = (permIx c).val
    omega

theorem gather_row (x : S8x768.Idx → EReal) (e : Fin 8) (c : Fin 768) :
    Host.gather gather_S8x768_S768x1_S8x768_0_1_n_n_1_1_81 x permTab (ix2 e c) = x (ix2 e (permIx c)) := by
  unfold Host.gather
  congr 1
  funext a
  refine Fin.ext ?_
  show GatherDims.start gather_S8x768_S768x1_S8x768_0_1_n_n_1_1_81 (ix2 e c) permTab a
    + GatherDims.batchCoord gather_S8x768_S768x1_S8x768_0_1_n_n_1_1_81 (ix2 e c) a
    + GatherDims.offCoord gather_S8x768_S768x1_S8x768_0_1_n_n_1_1_81 (ix2 e c) a = _
  rw [GatherDims.batchCoord_eq_zero _ _ _ List.not_mem_nil]
  match a with
  | ⟨0, h⟩ =>
    unfold GatherDims.start
    rw [dif_neg (by revert h; decide), Nat.zero_add]
    unfold GatherDims.offCoord
    rw [dif_pos (by revert h; decide)]
    rfl
  | ⟨1, h2⟩ =>
    rw [GatherDims.offCoord_eq_zero _ _ _ (fun h => ((GatherDims.mem_sKept _ _).mp h).1 (List.mem_singleton.mpr rfl))]
    unfold GatherDims.start
    rw [dif_pos (by revert h2; decide)]
    show min (permTab _).toInt.toNat 767 + 0 + 0 = _
    rw [permTab_at c _ rfl]
    show min (permIx c).val 767 + 0 + 0 = (permIx c).val
    omega

variable (m : (ℓ : Loc nD τ sig) → Buf (Elt Ideal) ℓ) (c : Dev nD)

/-! ## The arguments, and the arrays the windows read -/

/-- The arguments as the program finds them. -/
def arg0 : FVec Ideal S1x2048x768 .f32 := m ((c : Thread nD τ).loc main_arg0)
def arg1 : FVec Ideal S2048x32x2 .f32 := m ((c : Thread nD τ).loc main_arg1)
def arg2 : FVec Ideal S8x768x768 .f32 := m ((c : Thread nD τ).loc main_arg2)
def arg3 : FVec Ideal S8x768x768 .f32 := m ((c : Thread nD τ).loc main_arg3)
def arg4 : FVec Ideal S8x768x768 .f32 := m ((c : Thread nD τ).loc main_arg4)
def arg5 : FVec Ideal S8x768x768 .f32 := m ((c : Thread nD τ).loc main_arg5)
def arg6 : FVec Ideal S8x768 .f32 := m ((c : Thread nD τ).loc main_arg6)
def arg7 : FVec Ideal S8x768 .f32 := m ((c : Thread nD τ).loc main_arg7)
def arg8 : FVec Ideal S8x768 .f32 := m ((c : Thread nD τ).loc main_arg8)
def arg9 : FVec Ideal S8x768 .f32 := m ((c : Thread nD τ).loc main_arg9)
def arg10 : FVec Ideal S768x8 .f32 := m ((c : Thread nD τ).loc main_arg10)
def arg11 : FVec Ideal S8 .f32 := m ((c : Thread nD τ).loc main_arg11)

/-- The arrays as the region finds them. -/
def arrX : FVec Ideal S2048x768 .bf16 := V m c main_v2
def arrCs : FVec Ideal S2048x768 .bf16 := V m c main_v50
def arrGw : FVec Ideal S768x8 .bf16 := V m c main_v41
def arrGb : FVec Ideal S1x8 .f32 := V m c main_v0
def arrWq : FVec Ideal S8x768x768 .bf16 := V m c main_v8
def arrWk : FVec Ideal S8x768x768 .bf16 := V m c main_v14
def arrWv : FVec Ideal S8x768x768 .bf16 := V m c main_v15
def arrWo : FVec Ideal S8x768x768 .bf16 := V m c main_v16
def arrQg : FVec Ideal S8x1x768 .f32 := V m c main_v22
def arrQb : FVec Ideal S8x1x768 .f32 := V m c main_v28
def arrKg : FVec Ideal S8x1x768 .f32 := V m c main_v34
def arrKb : FVec Ideal S8x1x768 .f32 := V m c main_v40

theorem arrX_at (r : Fin 2048) (k : Fin 768) : arrX m c (ix2 r k) = arg0 m c (ix3 0 r k) := by
  have h : arrX m c = truncf .bf16 (shapeCast S2048x768 (arg0 m c) shapeCasts_S1x2048x768_S2048x768) bitsLt_bf16_f32 := by
    show StableHlo.after hostOps0 (fun b => m (c, b)) (Proc.devRef .tc main_v2) = _
    after_reads_simp
    rfl
  rw [h]
  show shapeCast S2048x768 (arg0 m c) shapeCasts_S1x2048x768_S2048x768 (ix2 r k) = _
  refine shapeCast_apply _ _ _ _ ?_
  rw [Shape.rowMajor_val_three, Shape.rowMajor_val_two]
  show (0 * 2048 + r.val) * 768 + k.val = r.val * 768 + k.val
  omega

theorem arrGw_at (k : Fin 768) (j : Fin 8) : arrGw m c (ix2 k j) = arg10 m c (ix2 k j) := by
  have h : arrGw m c = truncf .bf16 (arg10 m c) bitsLt_bf16_f32 := by
    show StableHlo.after hostOps0 (fun b => m (c, b)) (Proc.devRef .tc main_v41) = _
    after_reads_simp
    rfl
  rw [h]
  rfl

theorem arrGb_at (j : Fin 8) : arrGb m c (ix2 0 j) = arg11 m c (ix1 j) := by
  have h : arrGb m c = shapeCast S1x8 (arg11 m c) shapeCasts_S8_S1x8 := by
    show StableHlo.after hostOps0 (fun b => m (c, b)) (Proc.devRef .tc main_v0) = _
    after_reads_simp
    rfl
  rw [h]
  refine shapeCast_apply _ _ _ _ ?_
  rw [Shape.rowMajor_val_one, Shape.rowMajor_val_two]
  show j.val = 0 * 8 + j.val
  omega

theorem arrWq_at (e : Fin 8) (k j : Fin 768) : arrWq m c (ix3 e k j) = arg2 m c (ix3 e k (permIx j)) := by
  have h : arrWq m c = truncf .bf16 (Host.gather gather_S8x768x768_S768x1_S8x768x768_01_2_n_n_2_1_87681 (arg2 m c) permTab) bitsLt_bf16_f32 := by
    show StableHlo.after hostOps0 (fun b => m (c, b)) (Proc.devRef .tc main_v8) = _
    after_reads_simp
    rfl
  rw [h]
  exact gather_mat (arg2 m c) e k j

theorem arrWk_at (e : Fin 8) (k j : Fin 768) : arrWk m c (ix3 e k j) = arg3 m c (ix3 e k (permIx j)) := by
  have h : arrWk m c = truncf .bf16 (Host.gather gather_S8x768x768_S768x1_S8x768x768_01_2_n_n_2_1_87681 (arg3 m c) permTab) bitsLt_bf16_f32 := by
    show StableHlo.after hostOps0 (fun b => m (c, b)) (Proc.devRef .tc main_v14) = _
    after_reads_simp
    rfl
  rw [h]
  exact gather_mat (arg3 m c) e k j

theorem arrWv_at (e : Fin 8) (k j : Fin 768) : arrWv m c (ix3 e k j) = arg4 m c (ix3 e k j) := by
  have h : arrWv m c = truncf .bf16 (arg4 m c) bitsLt_bf16_f32 := by
    show StableHlo.after hostOps0 (fun b => m (c, b)) (Proc.devRef .tc main_v15) = _
    after_reads_simp
    rfl
  rw [h]
  rfl

theorem arrWo_at (e : Fin 8) (k j : Fin 768) : arrWo m c (ix3 e k j) = arg5 m c (ix3 e k j) := by
  have h : arrWo m c = truncf .bf16 (arg5 m c) bitsLt_bf16_f32 := by
    show StableHlo.after hostOps0 (fun b => m (c, b)) (Proc.devRef .tc main_v16) = _
    after_reads_simp
    rfl
  rw [h]
  rfl

/-- A row of scales or shifts, its columns gathered, as a block of one row. -/
theorem gather_row_cast (x : S8x768.Idx → EReal) (e : Fin 8) (j : Fin 768) :
    shapeCast S8x1x768 (Host.gather gather_S8x768_S768x1_S8x768_0_1_n_n_1_1_81 x permTab) shapeCasts_S8x768_S8x1x768 (ix3 e 0 j)
      = x (ix2 e (permIx j)) := by
  rw [← gather_row x e j]
  refine shapeCast_apply _ _ _ _ ?_
  rw [Shape.rowMajor_val_three, Shape.rowMajor_val_two]
  show e.val * 768 + j.val = (e.val * 1 + 0) * 768 + j.val
  omega

theorem arrQg_at (e : Fin 8) (j : Fin 768) : arrQg m c (ix3 e 0 j) = arg6 m c (ix2 e (permIx j)) := by
  have h : arrQg m c = shapeCast S8x1x768 (Host.gather gather_S8x768_S768x1_S8x768_0_1_n_n_1_1_81 (arg6 m c) permTab) shapeCasts_S8x768_S8x1x768 := by
    show StableHlo.after hostOps0 (fun b => m (c, b)) (Proc.devRef .tc main_v22) = _
    after_reads_simp
    rfl
  rw [h]
  exact gather_row_cast (arg6 m c) e j

theorem arrQb_at (e : Fin 8) (j : Fin 768) : arrQb m c (ix3 e 0 j) = arg7 m c (ix2 e (permIx j)) := by
  have h : arrQb m c = shapeCast S8x1x768 (Host.gather gather_S8x768_S768x1_S8x768_0_1_n_n_1_1_81 (arg7 m c) permTab) shapeCasts_S8x768_S8x1x768 := by
    show StableHlo.after hostOps0 (fun b => m (c, b)) (Proc.devRef .tc main_v28) = _
    after_reads_simp
    rfl
  rw [h]
  exact gather_row_cast (arg7 m c) e j

theorem arrKg_at (e : Fin 8) (j : Fin 768) : arrKg m c (ix3 e 0 j) = arg8 m c (ix2 e (permIx j)) := by
  have h : arrKg m c = shapeCast S8x1x768 (Host.gather gather_S8x768_S768x1_S8x768_0_1_n_n_1_1_81 (arg8 m c) permTab) shapeCasts_S8x768_S8x1x768 := by
    show StableHlo.after hostOps0 (fun b => m (c, b)) (Proc.devRef .tc main_v34) = _
    after_reads_simp
    rfl
  rw [h]
  exact gather_row_cast (arg8 m c) e j

theorem arrKb_at (e : Fin 8) (j : Fin 768) : arrKb m c (ix3 e 0 j) = arg9 m c (ix2 e (permIx j)) := by
  have h : arrKb m c = shapeCast S8x1x768 (Host.gather gather_S8x768_S768x1_S8x768_0_1_n_n_1_1_81 (arg9 m c) permTab) shapeCasts_S8x768_S8x1x768 := by
    show StableHlo.after hostOps0 (fun b => m (c, b)) (Proc.devRef .tc main_v40) = _
    after_reads_simp
    rfl
  rw [h]
  exact gather_row_cast (arg9 m c) e j

/-! ## The cosines and the sines -/

/-- One of the two planes of the table of angles. -/
def planeCos (x : FVec Ideal S2048x32x2 .f32) : FVec Ideal S2048x32 .f32 :=
  shapeCast S2048x32 (extractStridedSlice S2048x32x1 ![0, 0, 0] x slices_S2048x32x2_S2048x32x1_0_0_0) shapeCasts_S2048x32x1_S2048x32
def planeSin (x : FVec Ideal S2048x32x2 .f32) : FVec Ideal S2048x32 .f32 :=
  shapeCast S2048x32 (extractStridedSlice S2048x32x1 ![0, 0, 1] x slices_S2048x32x2_S2048x32x1_0_0_1) shapeCasts_S2048x32x1_S2048x32

theorem planeCos_at (x : FVec Ideal S2048x32x2 .f32) (r : Fin 2048) (p : Fin 32) : planeCos x (ix2 r p) = x (ix3 r p 0) := by
  unfold planeCos
  refine (shapeCast_apply _ _ _ (ix3 r p 0) ?_).trans ?_
  · rw [Shape.rowMajor_val_three, Shape.rowMajor_val_two]
    show (r.val * 32 + p.val) * 1 + 0 = r.val * 32 + p.val
    omega
  · refine extractStridedSlice_apply _ _ _ _ _ fun a => ?_
    fin_cases a
    · show r.val = 0 + r.val; omega
    · show p.val = 0 + p.val; omega
    · rfl

theorem planeSin_at (x : FVec Ideal S2048x32x2 .f32) (r : Fin 2048) (p : Fin 32) : planeSin x (ix2 r p) = x (ix3 r p 1) := by
  unfold planeSin
  refine (shapeCast_apply _ _ _ (ix3 r p 0) ?_).trans ?_
  · rw [Shape.rowMajor_val_three, Shape.rowMajor_val_two]
    show (r.val * 32 + p.val) * 1 + 0 = r.val * 32 + p.val
    omega
  · refine extractStridedSlice_apply _ _ _ _ _ fun a => ?_
    fin_cases a
    · show r.val = 0 + r.val; omega
    · show p.val = 0 + p.val; omega
    · rfl

/-- The two planes side by side, once per head. -/
def anglesOf (a b : FVec Ideal S2048x32 .f32) : FVec Ideal S2048x768 .f32 :=
  shapeCast S2048x768 (broadcastInDim S1x2048x12x64 ![0, 1, 2, 3] bcast_S1x2048x1x64_S1x2048x12x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x12x64_S2048x768

theorem anglesOf_at (a b : FVec Ideal S2048x32 .f32) (r : Fin 2048) (j : Fin 768) :
    anglesOf a b (ix2 r j)
      = concatenate S2048x64 1 [⟨S2048x32, a⟩, ⟨S2048x32, b⟩] concatenates_S2048x32_S2048x32_S2048x64_d1 (ix2 r ⟨j.val % 64, by omega⟩) := by
  unfold anglesOf
  refine (shapeCast_apply _ _ _ (ix4 0 r ⟨j.val / 64, by omega⟩ ⟨j.val % 64, by omega⟩) ?_).trans ?_
  · rw [Shape.rowMajor_val_four, Shape.rowMajor_val_two]
    show ((0 * 2048 + r.val) * 12 + j.val / 64) * 64 + j.val % 64 = r.val * 768 + j.val
    omega
  refine (broadcastInDim_apply _ _ _ _ (ix4 0 r 0 ⟨j.val % 64, by omega⟩) fun a => ?_).trans ?_
  · fin_cases a <;> rfl
  refine shapeCast_apply _ _ _ _ ?_
  rw [Shape.rowMajor_val_four, Shape.rowMajor_val_two]
  show r.val * 64 + j.val % 64 = ((0 * 2048 + r.val) * 1 + 0) * 64 + j.val % 64
  omega

theorem arrCs_eq : arrCs m c = truncf .bf16 (anglesOf (planeCos (arg1 m c)) (planeSin (arg1 m c))) bitsLt_bf16_f32 := by
  have h43 : StableHlo.upto hostOps0 (fun b => m (c, b)) 59 (Proc.devRef .tc main_v43) = planeCos (arg1 m c) := by
    show StableHlo.after (hostOps0.take 59) (fun b => m (c, b)) (Proc.devRef .tc main_v43) = _
    after_reads_simp
    rfl
  have h45 : StableHlo.upto hostOps0 (fun b => m (c, b)) 59 (Proc.devRef .tc main_v45) = planeSin (arg1 m c) := by
    show StableHlo.after (hostOps0.take 59) (fun b => m (c, b)) (Proc.devRef .tc main_v45) = _
    after_reads_simp
    rfl
  rw [← h43, ← h45]
  show StableHlo.after hostOps0 (fun b => m (c, b)) (Proc.devRef .tc main_v50) = _
  after_reads_simp
  rfl

theorem arrCs_cos (r : Fin 2048) (j : Fin 768) (h : j.val % 64 < 32) : arrCs m c (ix2 r j) = arg1 m c (ix3 r ⟨j.val % 64, h⟩ 0) := by
  rw [arrCs_eq]
  refine (anglesOf_at _ _ r j).trans ?_
  rw [← planeCos_at (arg1 m c) r, concatenate_pair_apply, dif_pos (by show j.val % 64 < 32; omega)]
  congr 1
  funext b
  fin_cases b <;> rfl

theorem arrCs_sin (r : Fin 2048) (j : Fin 768) (h : ¬ j.val % 64 < 32) :
    arrCs m c (ix2 r j) = arg1 m c (ix3 r ⟨j.val % 64 - 32, by omega⟩ 1) := by
  rw [arrCs_eq]
  refine (anglesOf_at _ _ r j).trans ?_
  rw [← planeSin_at (arg1 m c) r, concatenate_pair_apply, dif_neg (by show ¬ j.val % 64 < 32; omega)]
  congr 1
  funext b
  fin_cases b <;> rfl

end Cert.KernelIdeal.Val

end
-- ==== Proof.Kern.lean ====
/-
One expert of the kernel against one expert of the reference: from blocks that hold the reference's rows, the projections'
lanes re-ordered, the kernel's attention, its gate and what it adds to the output are the reference's.
-/
module

public import proofs.«01_k».proof.Proof.Body
public import proofs.«01_k».proof.Proof.Maths

@[expose] public section

set_option maxRecDepth 16384

noncomputable section

namespace Cert.KernelIdeal.Val

open Idealize.ShloMosaic Idealize.ShloMosaic.TcCoe
open Cert.KernelIdeal Cert.KernelIdeal.Gen Cert.KernelIdeal.Maths

theorem invDim_eq : invDim = ((1 / 768 : ℝ) : EReal) := rfl
theorem qScale_eq : qScale = (((8 * Real.log 2)⁻¹ : ℝ) : EReal) := rfl

section

variable (X : Fin 2048 → Fin 768 → EReal) (W Wv Wo : Fin 768 → Fin 768 → EReal) (g b : Fin 768 → EReal)
  (co si : Fin 2048 → Fin 32 → EReal)

/-! ## Queries and keys -/

variable {X W g b}

theorem pRow_at {x : Vec Ideal S2048x768 .bf16} {w : Vec Ideal S1x768x768 .bf16} (hx : ∀ r k, x (ix2 r k) = X r k)
    (hw : ∀ k c, w (ix3 0 k c) = W k (permIx c)) (r : Fin 2048) : pRow x w r = fun c => proj X W r (permIx c) :=
  funext fun c => Finset.sum_congr rfl fun k _ => by rw [hx, hw]

theorem pRow_at' {x : Vec Ideal S2048x768 .bf16} {w : Vec Ideal S1x768x768 .bf16} (hx : ∀ r k, x (ix2 r k) = X r k)
    (hw : ∀ k c, w (ix3 0 k c) = Wv k c) (r : Fin 2048) (c : Fin 768) : pRow x w r c = proj X Wv r c :=
  Finset.sum_congr rfl fun k _ => by rw [hx, hw]

/-- A row normalised in the kernel's order of the lanes is the reference's normalised row in that order. -/
theorem lnRow_at (p : Fin 768 → EReal) (hp : ∀ c, IsReal (p c)) {gv bv : Vec Ideal S1x1x768 .f32}
    (hg : ∀ c, gv (ix3 0 0 c) = g (permIx c)) (hb : ∀ c, bv (ix3 0 0 c) = b (permIx c)) (c : Fin 768) :
    lnRow (fun c => p (permIx c)) gv bv c = lnRef p g b (permIx c) := by
  unfold lnRow lnRef
  rw [sum_permIx p, sum_permIx fun c => p c * p c, hg, hb, invDim_eq, ← ln_eq p hp]
  rfl

variable {co si}

/-- The rotation by the prepared cosines and signed sines is the reference's. -/
theorem rotRow_at (p : Fin 768 → EReal) {cs : Vec Ideal S2048x768 .bf16}
    (hco : ∀ r (c : Fin 768) (h : c.val % 64 < 32), cs (ix2 r c) = co r ⟨c.val % 64, h⟩)
    (hsi : ∀ r (c : Fin 768) (h : ¬ c.val % 64 < 32), cs (ix2 r c) = si r ⟨c.val % 64 - 32, by omega⟩)
    (r : Fin 2048) (c : Fin 768) :
    rotRow (fun c => p (permIx c)) (fun c => cosArr cs (ix2 r c)) (fun c => sinArr cs (ix2 r c)) c
      = rotRef p (co r) (si r) (permIx c) := by
  have hc := c.isLt
  show p (permIx c) * cosArr cs (ix2 r c) + p (permIx (swapIx c)) * sinArr cs (ix2 r c) = _
  by_cases h : c.val % 64 < 32
  · have hs : swapIx c = ⟨c.val + 32, by omega⟩ := dif_pos h
    have hsv : (swapIx c).val % 64 - 32 = c.val % 64 := by rw [hs]; show (c.val + 32) % 64 - 32 = _; omega
    have hsn : ¬ (swapIx c).val % 64 < 32 := by rw [hs]; show ¬ (c.val + 32) % 64 < 32; omega
    have e1 : cosArr cs (ix2 r c) = co r ⟨c.val % 64, h⟩ := (if_pos h).trans (hco r c h)
    have e2 : sinArr cs (ix2 r c) = 0 - si r ⟨c.val % 64, h⟩ := (if_pos h).trans <| by
      show (0 : EReal) - cs (ix2 r (swapIx c)) = _
      rw [hsi r (swapIx c) hsn]
      exact congrArg (fun j => (0 : EReal) - si r j) (Fin.ext hsv)
    rw [rotRef_lo p _ _ c h, e1, e2, hs]
  · have hs : swapIx c = ⟨c.val - 32, by omega⟩ := dif_neg h
    have hsv : (swapIx c).val % 64 = c.val % 64 - 32 := by rw [hs]; show (c.val - 32) % 64 = _; omega
    have hsp : (swapIx c).val % 64 < 32 := by omega
    have e1 : cosArr cs (ix2 r c) = co r ⟨c.val % 64 - 32, by omega⟩ := (if_neg h).trans <| by
      show cs (ix2 r (swapIx c)) = _
      rw [hco r (swapIx c) hsp]
      exact congrArg (co r) (Fin.ext hsv)
    have e2 : sinArr cs (ix2 r c) = si r ⟨c.val % 64 - 32, by omega⟩ := (if_neg h).trans (hsi r c h)
    rw [rotRef_hi p _ _ c h, e1, e2, hs]

/-- The keys hold the reference's keys in the kernel's order of the lanes. -/
theorem kArr_at {x cs : Vec Ideal S2048x768 .bf16} {w : Vec Ideal S1x768x768 .bf16} {gv bv : Vec Ideal S1x1x768 .f32}
    (hx : ∀ r k, x (ix2 r k) = X r k) (hw : ∀ k c, w (ix3 0 k c) = W k (permIx c))
    (hg : ∀ c, gv (ix3 0 0 c) = g (permIx c)) (hb : ∀ c, bv (ix3 0 0 c) = b (permIx c))
    (hco : ∀ r (c : Fin 768) (h : c.val % 64 < 32), cs (ix2 r c) = co r ⟨c.val % 64, h⟩)
    (hsi : ∀ r (c : Fin 768) (h : ¬ c.val % 64 < 32), cs (ix2 r c) = si r ⟨c.val % 64 - 32, by omega⟩)
    (hX : ∀ r k, IsReal (X r k)) (hW : ∀ k c, IsReal (W k c)) (r : Fin 2048) (c : Fin 768) :
    kArr x w gv bv (cosArr cs) (sinArr cs) (ix2 r c) = rotated X W g b co si r (permIx c) := by
  show rotRow (lnRow (pRow x w r) gv bv) (fun c => cosArr cs (ix2 r c)) (fun c => sinArr cs (ix2 r c)) c = _
  rw [pRow_at hx hw, show lnRow (fun c => proj X W r (permIx c)) gv bv = fun c => lnRef (proj X W r) g b (permIx c) from
    funext (lnRow_at _ (proj_isReal X W hX hW r) hg hb)]
  exact rotRow_at (lnRef (proj X W r) g b) hco hsi r c

/-- The queries hold the reference's queries in the kernel's order of the lanes, scaled. -/
theorem qArr_at {x cs : Vec Ideal S2048x768 .bf16} {w : Vec Ideal S1x768x768 .bf16} {gv bv : Vec Ideal S1x1x768 .f32}
    (hx : ∀ r k, x (ix2 r k) = X r k) (hw : ∀ k c, w (ix3 0 k c) = W k (permIx c))
    (hg : ∀ c, gv (ix3 0 0 c) = g (permIx c)) (hb : ∀ c, bv (ix3 0 0 c) = b (permIx c))
    (hco : ∀ r (c : Fin 768) (h : c.val % 64 < 32), cs (ix2 r c) = co r ⟨c.val % 64, h⟩)
    (hsi : ∀ r (c : Fin 768) (h : ¬ c.val % 64 < 32), cs (ix2 r c) = si r ⟨c.val % 64 - 32, by omega⟩)
    (hX : ∀ r k, IsReal (X r k)) (hW : ∀ k c, IsReal (W k c)) (r : Fin 2048) (c : Fin 768) :
    qArr x w gv bv (cosArr cs) (sinArr cs) (ix2 r c) = rotated X W g b co si r (permIx c) * qScale :=
  congrArg (· * qScale) (kArr_at hx hw hg hb hco hsi hX hW r c)

end

/-! ## One head's attention -/

/-- The scores of scaled queries, over the lanes in the kernel's order, are the reference's scores scaled. -/
theorem score_at (q k : Fin 2048 → Fin 768 → EReal) {Q K : Vec Ideal S2048x768 .bf16}
    (hQ : ∀ r c, Q (ix2 r c) = q r (permIx c) * qScale) (hK : ∀ r c, K (ix2 r c) = k r (permIx c))
    (h : Fin 12) (r y : Fin 2048) :
    (∑ j : Fin 64, Q (ix2 r (lane h j)) * K (ix2 y (lane h j))) = score q k h r y * (((8 * Real.log 2)⁻¹ : ℝ) : EReal) := by
  have hlog : 0 < Real.log 2 := Real.log_pos (by norm_num)
  unfold score
  rw [← sum_halfIx fun d => q r (lane h d) * k y (lane h d), sum_mul_coe _ _ (by positivity)]
  refine Finset.sum_congr rfl fun j _ => ?_
  rw [hQ, hK, permIx_lane, qScale_eq, mul_assoc, mul_comm _ (k _ _), mul_assoc]

theorem headAt_attention (q k v : Fin 2048 → Fin 768 → EReal) {Q K : Vec Ideal S2048x768 .bf16} {V : Vec Ideal S2048x1536 .bf16}
    (hQ : ∀ r c, Q (ix2 r c) = q r (permIx c) * qScale) (hK : ∀ r c, K (ix2 r c) = k r (permIx c))
    (hV : ∀ r (h : Fin 12) (c : Fin 64), V (ix2 r ⟨128 * h.val + c.val, by omega⟩) = v r (lane h c))
    (hV1 : ∀ r (h : Fin 12), V (ix2 r ⟨128 * h.val + 64, by omega⟩) = 1)
    (hs : ∀ h r y, IsReal (score q k h r y)) (r : Fin 2048) (c : Fin 768) :
    accArr Q K V (ix2 r c) = attend q k v r c := by
  have hl : lane (headOf c) ⟨c.val % 64, by omega⟩ = c := Fin.ext (by
    show 64 * (c.val / 64) + c.val % 64 = c.val; omega)
  have hsc : ∀ y, (∑ j : Fin 64, Q (ix2 r (lane (headOf c) j)) * K (ix2 y (lane (headOf c) j)))
      = score q k (headOf c) r y * (((8 * Real.log 2)⁻¹ : ℝ) : EReal) := score_at q k hQ hK (headOf c) r
  have hv : ∀ x p, V (ix2 x ⟨128 * (headOf c).val + c.val % 64, p⟩) = v x c := fun x p =>
    (hV x (headOf c) ⟨c.val % 64, by omega⟩).trans (congrArg (v x) hl)
  unfold attend
  rw [← soft_eq _ _ (hs (headOf c) r)]
  show Ideal.div
    (∑ x, Ideal.exp2 ((∑ j : Fin 64, Q (ix2 r (lane (headOf c) j)) * K (ix2 x (lane (headOf c) j)))
        - Finset.fold max (Ideal.ofBits FTy.f32 0xFF800000#32)
          (fun x => ∑ j : Fin 64, Q (ix2 r (lane (headOf c) j)) * K (ix2 x (lane (headOf c) j))) Finset.univ)
      * V (ix2 x ⟨128 * (headOf c).val + c.val % 64, by omega⟩))
    (∑ x, Ideal.exp2 ((∑ j : Fin 64, Q (ix2 r (lane (headOf c) j)) * K (ix2 x (lane (headOf c) j)))
        - Finset.fold max (Ideal.ofBits FTy.f32 0xFF800000#32)
          (fun x => ∑ j : Fin 64, Q (ix2 r (lane (headOf c) j)) * K (ix2 x (lane (headOf c) j))) Finset.univ)
      * V (ix2 x ⟨128 * (headOf c).val + 64, by omega⟩)) = _
  simp only [hsc, hv, hV1, mul_one, ofBits_neg_top]

/-! ## One expert -/

/-- The kernel's attention of one expert is the reference's. -/
theorem expertAcc_at (X : Fin 2048 → Fin 768 → EReal) (Wq Wk Wv : Fin 768 → Fin 768 → EReal) (gq bq gk bk : Fin 768 → EReal)
    (co si : Fin 2048 → Fin 32 → EReal) {x cs : Vec Ideal S2048x768 .bf16} {wq wk wv : Vec Ideal S1x768x768 .bf16}
    {qg qb kg kb : Vec Ideal S1x1x768 .f32}
    (hx : ∀ r k, x (ix2 r k) = X r k) (hwq : ∀ k c, wq (ix3 0 k c) = Wq k (permIx c))
    (hwk : ∀ k c, wk (ix3 0 k c) = Wk k (permIx c)) (hwv : ∀ k c, wv (ix3 0 k c) = Wv k c)
    (hqg : ∀ c, qg (ix3 0 0 c) = gq (permIx c)) (hqb : ∀ c, qb (ix3 0 0 c) = bq (permIx c))
    (hkg : ∀ c, kg (ix3 0 0 c) = gk (permIx c)) (hkb : ∀ c, kb (ix3 0 0 c) = bk (permIx c))
    (hco : ∀ r (c : Fin 768) (h : c.val % 64 < 32), cs (ix2 r c) = co r ⟨c.val % 64, h⟩)
    (hsi : ∀ r (c : Fin 768) (h : ¬ c.val % 64 < 32), cs (ix2 r c) = si r ⟨c.val % 64 - 32, by omega⟩)
    (hX : ∀ r k, IsReal (X r k)) (hWq : ∀ k c, IsReal (Wq k c)) (hWk : ∀ k c, IsReal (Wk k c))
    (rgq : ∀ c, IsReal (gq c)) (rbq : ∀ c, IsReal (bq c)) (rgk : ∀ c, IsReal (gk c)) (rbk : ∀ c, IsReal (bk c))
    (rco : ∀ r j, IsReal (co r j)) (rsi : ∀ r j, IsReal (si r j)) (r : Fin 2048) (c : Fin 768) :
    expertAcc x wq wk wv qg qb kg kb onesArr (cosArr cs) (sinArr cs) (ix2 r c)
      = attend (rotated X Wq gq bq co si) (rotated X Wk gk bk co si) (proj X Wv) r c := by
  refine headAt_attention _ _ _ (qArr_at hx hwq hqg hqb hco hsi hX hWq) (kArr_at hx hwk hkg hkb hco hsi hX hWk) ?_ ?_
    (score_isReal _ _ (rotated_isReal X Wq gq bq co si hX hWq rgq rbq rco rsi)
      (rotated_isReal X Wk gk bk co si hX hWk rgk rbk rco rsi)) r c
  · intro r h c
    have e : (128 * h.val + c.val) % 128 < 64 := by omega
    refine (if_pos e).trans ?_
    refine (congrArg (pRow x wv r) (Fin.ext ?_)).trans (pRow_at' Wv hx hwv r (lane h c))
    show (64 * ((128 * h.val + c.val) / 128) + (128 * h.val + c.val) % 128) % 768 = 64 * h.val + c.val
    omega
  · intro r h
    have e : ¬ (128 * h.val + 64) % 128 < 64 := by omega
    refine (if_neg e).trans (if_pos ?_)
    show (128 * h.val + 64) % 128 = 64
    omega

theorem pick_eq : ∀ j e : Fin 8,
    IntOp.cmpi .eq (BitVec.ofNat 32 j.val) (BitVec.ofNat 32 e.val) = if j = e then 1#1 else 0#1 := by decide +kernel

/-- The gate picked out of the eight is the expert's. -/
theorem gateAt_at (X : Fin 2048 → Fin 768 → EReal) (Gw : Fin 768 → Fin 8 → EReal) (Gb : Fin 8 → EReal) (e : Fin 8)
    {x : Vec Ideal S2048x768 .bf16} {gw : Vec Ideal S768x8 .bf16} {gb : Vec Ideal S1x8 .f32}
    (hx : ∀ r k, x (ix2 r k) = X r k) (hgw : ∀ k j, gw (ix2 k j) = Gw k j) (hgb : ∀ j, gb (ix2 0 j) = Gb j) (r : Fin 2048) :
    gateAt (BitVec.ofNat 32 e.val) x gw gb r = gate X Gw Gb e r := by
  unfold gateAt
  rw [Finset.sum_eq_single e]
  · rw [pick_eq, if_pos rfl]
    show Ideal.logistic _ = _
    unfold gate
    simp only [hx, hgw, hgb]
  · intro j _ hj
    rw [pick_eq, if_neg hj]
    rfl
  · intro h; exact absurd (Finset.mem_univ e) h

/-- What one expert adds to the output. -/
theorem outStep_at (X : Fin 2048 → Fin 768 → EReal) (Gw : Fin 768 → Fin 8 → EReal) (Gb : Fin 8 → EReal)
    (Wo : Fin 768 → Fin 768 → EReal) (A : Fin 2048 → Fin 768 → EReal) (e : Fin 8)
    {x acc : Vec Ideal S2048x768 .bf16} {gw : Vec Ideal S768x8 .bf16} {gb : Vec Ideal S1x8 .f32} {wo : Vec Ideal S1x768x768 .bf16}
    (hx : ∀ r k, x (ix2 r k) = X r k) (hgw : ∀ k j, gw (ix2 k j) = Gw k j) (hgb : ∀ j, gb (ix2 0 j) = Gb j)
    (hwo : ∀ k c, wo (ix3 0 k c) = Wo k c) (hacc : ∀ r c, acc (ix2 r c) = A r c) (old : Vec Ideal S2048x768 .f32)
    (r : Fin 2048) (c : Fin 768) :
    outStep (BitVec.ofNat 32 e.val) x gw gb wo acc old (ix2 r c) = old (ix2 r c) + contrib A Wo (gate X Gw Gb e) r c := by
  show old (ix2 r c) + (∑ k, acc (ix2 r k) * wo (ix3 0 k c)) * gateAt (BitVec.ofNat 32 e.val) x gw gb r = _
  rw [gateAt_at X Gw Gb e hx hgw hgb]
  unfold contrib
  simp only [hacc, hwo]

end Cert.KernelIdeal.Val

end
-- ==== Proof.Ref.lean ====
/-
The reference's result at an index: a sum over the experts of what each contributes, each a function of the arguments'
rows.
-/
module

public import proofs.«01_k».proof.Proof.Gen.ReferenceIdeal.Read
public import proofs.«01_k».proof.Proof.Maths
public import Idealize.ShloMosaic.Lib.Pointwise
public import Idealize.ShloMosaic.Lib.KernelVsHost
public import Idealize.ShloMosaic.Lib.ValueIdxRank6

@[expose] public section

set_option maxRecDepth 16384

noncomputable section

namespace Cert.ReferenceIdeal.Val

open Idealize.ShloMosaic Idealize.ShloMosaic.TcCoe Idealize.SL.Sem Idealize.ShloMosaic.StableHlo
open Cert.ReferenceIdeal Cert.ReferenceIdeal.Gen Cert.ReferenceIdeal.Read Cert.KernelIdeal.Maths

/-! ## The arguments as plain functions -/

/-- The activations. -/
def actsOf (x0 : FVec Ideal S1x2048x768 .f32) (r : Fin 2048) (k : Fin 768) : EReal := x0 (ix3 0 r k)
/-- One expert's matrix of weights. -/
def matOf (w : FVec Ideal S8x768x768 .f32) (e : Fin 8) (k c : Fin 768) : EReal := w (ix3 e k c)
/-- One expert's row of scales or shifts. -/
def rowOf (g : FVec Ideal S8x768 .f32) (e : Fin 8) (c : Fin 768) : EReal := g (ix2 e c)
/-- The cosines (`j = 0`) or the sines (`j = 1`). -/
def trigOf (f : FVec Ideal S2048x32x2 .f32) (j : Fin 2) (r : Fin 2048) (p : Fin 32) : EReal := f (ix3 r p j)

theorem v16_at (x0 : FVec Ideal S1x2048x768 .f32) (x2 : FVec Ideal S8x768x768 .f32) (e : Fin 8) (r : Fin 2048) (c : Fin 768) :
    val_main_v16 (F := Ideal) x0 x2 (ix4 0 r e c) = proj (actsOf x0) (matOf x2 e) r c := by
  pointwise [val_main_v16]
  rfl

theorem v21_at (x0 : FVec Ideal S1x2048x768 .f32) (x2 : FVec Ideal S8x768x768 .f32) (e : Fin 8) (r : Fin 2048) :
    val_main_v21 (F := Ideal) x0 x2 (ix4 e 0 r 0) = meanRef (proj (actsOf x0) (matOf x2 e) r) := by
  pointwise [val_main_v21, val_main_v20, val_main_v19, val_main_v18, val_main_v17, val_main_cst_1, val_main_cst_2]
  simp only [v16_at]
  rw [ofBits_768]
  rfl

theorem v34_at (x0 : FVec Ideal S1x2048x768 .f32) (x2 : FVec Ideal S8x768x768 .f32) (e : Fin 8) (r : Fin 2048) :
    val_main_v34 (F := Ideal) x0 x2 (ix4 e 0 r 0) = varRef (proj (actsOf x0) (matOf x2 e) r) := by
  pointwise [val_main_v34, val_main_v33, val_main_v29, val_main_v28, val_main_v27, val_main_v26, val_main_v25, val_main_v24,
    val_main_v23, val_main_v22, val_main_cst_3, val_main_cst_4, val_main_cst_5]
  simp only [v16_at, v21_at]
  rw [ofBits_768]
  rfl

theorem v43_at (x0 : FVec Ideal S1x2048x768 .f32) (x2 : FVec Ideal S8x768x768 .f32) (x6 x7 : FVec Ideal S8x768 .f32)
    (e : Fin 8) (r : Fin 2048) (c : Fin 768) :
    val_main_v43 (F := Ideal) x0 x2 x6 x7 (ix4 e 0 r c)
      = lnRef (proj (actsOf x0) (matOf x2 e) r) (rowOf x6 e) (rowOf x7 e) c := by
  pointwise [val_main_v43, val_main_v42, val_main_v41, val_main_v40, val_main_v39, val_main_v38, val_main_v37, val_main_v36,
    val_main_v35, val_main_v32, val_main_v31, val_main_v30]
  simp only [v16_at, v21_at, v34_at]
  rfl

/-- The lane of pair `j` of head `h`: its first (`t = 0`) or second lane. -/
def pairLane (h : Fin 12) (j : Fin 32) (t : Fin 2) : Fin 768 := ⟨64 * h.val + 2 * j.val + t.val, by omega⟩

theorem v75_at (x0 : FVec Ideal S1x2048x768 .f32) (x2 : FVec Ideal S8x768x768 .f32) (x6 x7 : FVec Ideal S8x768 .f32)
    (e : Fin 8) (r : Fin 2048) (h : Fin 12) (d : Fin 64) :
    val_main_v75 (F := Ideal) x0 x2 x6 x7 (ix5 e 0 r h d)
      = lnRef (proj (actsOf x0) (matOf x2 e) r) (rowOf x6 e) (rowOf x7 e) (lane h d) := by
  rw [val_main_v75_apply, ← v43_at]
  congr 1
  funext a
  have h0 := e.isLt; have h2 := r.isLt; have h3 := h.isLt; have h4 := d.isLt
  fin_cases a <;> apply Fin.ext
  · show ((((e.val * 1 + 0) * 2048 + r.val) * 12 + h.val) * 64 + d.val) / 1572864 = e.val; omega
  · rfl
  · show ((((e.val * 1 + 0) * 2048 + r.val) * 12 + h.val) * 64 + d.val) / 768 % 2048 = r.val; omega
  · show ((((e.val * 1 + 0) * 2048 + r.val) * 12 + h.val) * 64 + d.val) % 768 = 64 * h.val + d.val; omega

theorem v76_at (x0 : FVec Ideal S1x2048x768 .f32) (x2 : FVec Ideal S8x768x768 .f32) (x6 x7 : FVec Ideal S8x768 .f32)
    (e : Fin 8) (r : Fin 2048) (h : Fin 12) (j : Fin 32) (t : Fin 2) :
    val_main_v76 (F := Ideal) x0 x2 x6 x7 (ValueIdx.ix6 e 0 r h j t)
      = lnRef (proj (actsOf x0) (matOf x2 e) r) (rowOf x6 e) (rowOf x7 e) (pairLane h j t) := by
  have hl : pairLane h j t = lane h ⟨2 * j.val + t.val, by omega⟩ := Fin.ext (by
    show 64 * h.val + 2 * j.val + t.val = 64 * h.val + (2 * j.val + t.val); omega)
  rw [hl, ← v75_at]
  unfold val_main_v76
  refine shapeCast_apply _ _ _ _ ?_
  rw [Shape.rowMajor_val_five, Shape.rowMajor_val_six]
  show (((e.val * 1 + 0) * 2048 + r.val) * 12 + h.val) * 64 + (2 * j.val + t.val)
    = ((((e.val * 1 + 0) * 2048 + r.val) * 12 + h.val) * 32 + j.val) * 2 + t.val
  omega

theorem v78_at (x0 : FVec Ideal S1x2048x768 .f32) (x2 : FVec Ideal S8x768x768 .f32) (x6 x7 : FVec Ideal S8x768 .f32)
    (e : Fin 8) (r : Fin 2048) (h : Fin 12) (j : Fin 32) :
    val_main_v78 (F := Ideal) x0 x2 x6 x7 (ix5 e 0 r h j)
      = lnRef (proj (actsOf x0) (matOf x2 e) r) (rowOf x6 e) (rowOf x7 e) (pairLane h j 0) := by
  rw [← v76_at]
  unfold val_main_v78
  refine (shapeCast_apply _ _ _ (ValueIdx.ix6 e 0 r h j 0) ?_).trans ?_
  · rw [Shape.rowMajor_val_five, Shape.rowMajor_val_six]
    show ((((e.val * 1 + 0) * 2048 + r.val) * 12 + h.val) * 32 + j.val) * 1 + 0
      = (((e.val * 1 + 0) * 2048 + r.val) * 12 + h.val) * 32 + j.val
    omega
  · rw [val_main_v77_apply]
    congr 1
    funext a
    fin_cases a <;> rfl

theorem v80_at (x0 : FVec Ideal S1x2048x768 .f32) (x2 : FVec Ideal S8x768x768 .f32) (x6 x7 : FVec Ideal S8x768 .f32)
    (e : Fin 8) (r : Fin 2048) (h : Fin 12) (j : Fin 32) :
    val_main_v80 (F := Ideal) x0 x2 x6 x7 (ix5 e 0 r h j)
      = lnRef (proj (actsOf x0) (matOf x2 e) r) (rowOf x6 e) (rowOf x7 e) (pairLane h j 1) := by
  rw [← v76_at]
  unfold val_main_v80
  refine (shapeCast_apply _ _ _ (ValueIdx.ix6 e 0 r h j 0) ?_).trans ?_
  · rw [Shape.rowMajor_val_five, Shape.rowMajor_val_six]
    show ((((e.val * 1 + 0) * 2048 + r.val) * 12 + h.val) * 32 + j.val) * 1 + 0
      = (((e.val * 1 + 0) * 2048 + r.val) * 12 + h.val) * 32 + j.val
    omega
  · rw [val_main_v79_apply]
    congr 1
    funext a
    fin_cases a <;> rfl

theorem v12_at (x1 : FVec Ideal S2048x32x2 .f32) (r : Fin 2048) (j : Fin 32) :
    val_main_v12 (F := Ideal) x1 (ix4 0 r 0 j) = trigOf x1 0 r j := by
  pointwise [val_main_v12, val_main_v11, val_main_v10]
  rfl

theorem v15_at (x1 : FVec Ideal S2048x32x2 .f32) (r : Fin 2048) (j : Fin 32) :
    val_main_v15 (F := Ideal) x1 (ix4 0 r 0 j) = trigOf x1 1 r j := by
  pointwise [val_main_v15, val_main_v14, val_main_v13]
  rfl

theorem v87_at (x0 : FVec Ideal S1x2048x768 .f32) (x1 : FVec Ideal S2048x32x2 .f32) (x2 : FVec Ideal S8x768x768 .f32)
    (x6 x7 : FVec Ideal S8x768 .f32) (e : Fin 8) (r : Fin 2048) (h : Fin 12) (j : Fin 32) :
    val_main_v87 (F := Ideal) x0 x1 x2 x6 x7 (ix5 e 0 r h j)
      = lnRef (proj (actsOf x0) (matOf x2 e) r) (rowOf x6 e) (rowOf x7 e) (pairLane h j 0) * trigOf x1 0 r j
        - lnRef (proj (actsOf x0) (matOf x2 e) r) (rowOf x6 e) (rowOf x7 e) (pairLane h j 1) * trigOf x1 1 r j := by
  pointwise [val_main_v87, val_main_v86, val_main_v85, val_main_v84, val_main_v83, val_main_v82, val_main_v81]
  rw [v78_at, v80_at, v12_at, v15_at]

theorem v94_at (x0 : FVec Ideal S1x2048x768 .f32) (x1 : FVec Ideal S2048x32x2 .f32) (x2 : FVec Ideal S8x768x768 .f32)
    (x6 x7 : FVec Ideal S8x768 .f32) (e : Fin 8) (r : Fin 2048) (h : Fin 12) (j : Fin 32) :
    val_main_v94 (F := Ideal) x0 x1 x2 x6 x7 (ix5 e 0 r h j)
      = lnRef (proj (actsOf x0) (matOf x2 e) r) (rowOf x6 e) (rowOf x7 e) (pairLane h j 0) * trigOf x1 1 r j
        + lnRef (proj (actsOf x0) (matOf x2 e) r) (rowOf x6 e) (rowOf x7 e) (pairLane h j 1) * trigOf x1 0 r j := by
  pointwise [val_main_v94, val_main_v93, val_main_v92, val_main_v91, val_main_v90, val_main_v89, val_main_v88]
  rw [v78_at, v80_at, v12_at, v15_at]

theorem join_lo (y z : FVec Ideal S8x1x2048x12x32x1 .f32) (e : Fin 8) (r : Fin 2048) (h : Fin 12) (j : Fin 32) :
    concatenate S8x1x2048x12x32x2 5 [⟨S8x1x2048x12x32x1, y⟩, ⟨S8x1x2048x12x32x1, z⟩]
        concatenates_S8x1x2048x12x32x1_S8x1x2048x12x32x1_S8x1x2048x12x32x2_d5 (ValueIdx.ix6 e 0 r h j 0)
      = y (ValueIdx.ix6 e 0 r h j 0) := by
  rw [concatenate_pair_apply, dif_pos (by show (0:ℕ) < 1; omega)]
  congr 1
  funext b
  fin_cases b <;> rfl

theorem join_hi (y z : FVec Ideal S8x1x2048x12x32x1 .f32) (e : Fin 8) (r : Fin 2048) (h : Fin 12) (j : Fin 32) :
    concatenate S8x1x2048x12x32x2 5 [⟨S8x1x2048x12x32x1, y⟩, ⟨S8x1x2048x12x32x1, z⟩]
        concatenates_S8x1x2048x12x32x1_S8x1x2048x12x32x1_S8x1x2048x12x32x2_d5 (ValueIdx.ix6 e 0 r h j 1)
      = z (ValueIdx.ix6 e 0 r h j 0) := by
  rw [concatenate_pair_apply, dif_neg (by show ¬ (1:ℕ) < 1; omega)]
  congr 1
  funext b
  fin_cases b <;> rfl

theorem v97_at (x0 : FVec Ideal S1x2048x768 .f32) (x1 : FVec Ideal S2048x32x2 .f32) (x2 : FVec Ideal S8x768x768 .f32)
    (x6 x7 : FVec Ideal S8x768 .f32) (e : Fin 8) (r : Fin 2048) (h : Fin 12) (j : Fin 32) (t : Fin 2) :
    val_main_v97 (F := Ideal) x0 x1 x2 x6 x7 (ValueIdx.ix6 e 0 r h j t)
      = rotated (actsOf x0) (matOf x2 e) (rowOf x6 e) (rowOf x7 e) (trigOf x1 0) (trigOf x1 1) r (pairLane h j t) := by
  have hj : ∀ t' : Fin 2, (⟨(pairLane h j t').val % 64 / 2, by omega⟩ : Fin 32) = j := fun t' => Fin.ext (by
    show (64 * h.val + 2 * j.val + t'.val) % 64 / 2 = j.val
    omega)
  have hn : ∀ p, (⟨(pairLane h j 0).val + 1, p⟩ : Fin 768) = pairLane h j 1 := fun p => Fin.ext (by
    show 64 * h.val + 2 * j.val + 0 + 1 = 64 * h.val + 2 * j.val + 1; omega)
  have hm : ∀ p, (⟨(pairLane h j 1).val - 1, p⟩ : Fin 768) = pairLane h j 0 := fun p => Fin.ext (by
    show 64 * h.val + 2 * j.val + 1 - 1 = 64 * h.val + 2 * j.val + 0; omega)
  unfold rotated rotRef
  obtain rfl | rfl : t = 0 ∨ t = 1 := by omega
  · rw [dif_pos (by show (64 * h.val + 2 * j.val + 0) % 2 = 0; omega), hj 0, hn, ← v87_at]
    rw [val_main_v97, join_lo, val_main_v95_apply]
    congr 1; funext a; fin_cases a <;> rfl
  · rw [dif_neg (by show ¬ (64 * h.val + 2 * j.val + 1) % 2 = 0; omega), hj 1, hm, ← v94_at]
    rw [val_main_v97, join_hi, val_main_v96_apply]
    congr 1; funext a; fin_cases a <;> rfl

theorem v98_at (x0 : FVec Ideal S1x2048x768 .f32) (x1 : FVec Ideal S2048x32x2 .f32) (x2 : FVec Ideal S8x768x768 .f32)
    (x6 x7 : FVec Ideal S8x768 .f32) (e : Fin 8) (r : Fin 2048) (h : Fin 12) (d : Fin 64) :
    val_main_v98 (F := Ideal) x0 x1 x2 x6 x7 (ix5 e 0 r h d)
      = rotated (actsOf x0) (matOf x2 e) (rowOf x6 e) (rowOf x7 e) (trigOf x1 0) (trigOf x1 1) r (lane h d) := by
  have hl : lane h d = pairLane h ⟨d.val / 2, by omega⟩ ⟨d.val % 2, by omega⟩ := Fin.ext (by
    show 64 * h.val + d.val = 64 * h.val + 2 * (d.val / 2) + d.val % 2; omega)
  rw [hl, ← v97_at]
  unfold val_main_v98
  refine shapeCast_apply _ _ _ _ ?_
  rw [Shape.rowMajor_val_five, Shape.rowMajor_val_six]
  show ((((e.val * 1 + 0) * 2048 + r.val) * 12 + h.val) * 32 + d.val / 2) * 2 + d.val % 2
    = (((e.val * 1 + 0) * 2048 + r.val) * 12 + h.val) * 64 + d.val
  omega

/-- The keys are normalised as the queries are. -/
theorem v71_eq (x0 : FVec Ideal S1x2048x768 .f32) (x3 : FVec Ideal S8x768x768 .f32) (x8 x9 : FVec Ideal S8x768 .f32) :
    val_main_v71 (F := Ideal) x0 x3 x8 x9 = val_main_v43 (F := Ideal) x0 x3 x8 x9 := by
  simp only [val_main_v71, val_main_v70, val_main_v69, val_main_v68, val_main_v67, val_main_v66, val_main_v65,
    val_main_v64, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_cst_6, val_main_cst_7,
    val_main_cst_8, val_main_cst_9, val_main_cst_10, val_main_v43, val_main_v42, val_main_v41, val_main_v40,
    val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_cst_1, val_main_cst_2, val_main_cst_3, val_main_cst_4, val_main_cst_5]

theorem v102_eq (x0 : FVec Ideal S1x2048x768 .f32) (x3 : FVec Ideal S8x768x768 .f32) (x8 x9 : FVec Ideal S8x768 .f32) :
    val_main_v102 (F := Ideal) x0 x3 x8 x9 = val_main_v78 (F := Ideal) x0 x3 x8 x9 := by
  rw [val_main_v102, val_main_v101, val_main_v100, val_main_v99, v71_eq, val_main_v78, val_main_v77, val_main_v76, val_main_v75]

theorem v104_eq (x0 : FVec Ideal S1x2048x768 .f32) (x3 : FVec Ideal S8x768x768 .f32) (x8 x9 : FVec Ideal S8x768 .f32) :
    val_main_v104 (F := Ideal) x0 x3 x8 x9 = val_main_v80 (F := Ideal) x0 x3 x8 x9 := by
  rw [val_main_v104, val_main_v103, val_main_v100, val_main_v99, v71_eq, val_main_v80, val_main_v79, val_main_v76, val_main_v75]

theorem v111_eq (x0 : FVec Ideal S1x2048x768 .f32) (x1 : FVec Ideal S2048x32x2 .f32) (x3 : FVec Ideal S8x768x768 .f32)
    (x8 x9 : FVec Ideal S8x768 .f32) :
    val_main_v111 (F := Ideal) x0 x1 x3 x8 x9 = val_main_v87 (F := Ideal) x0 x1 x3 x8 x9 := by
  simp only [val_main_v111, val_main_v110, val_main_v109, val_main_v108, val_main_v107, val_main_v106, val_main_v105, v102_eq, v104_eq,
    val_main_v87, val_main_v86, val_main_v85, val_main_v84, val_main_v83, val_main_v82, val_main_v81]

theorem v118_eq (x0 : FVec Ideal S1x2048x768 .f32) (x1 : FVec Ideal S2048x32x2 .f32) (x3 : FVec Ideal S8x768x768 .f32)
    (x8 x9 : FVec Ideal S8x768 .f32) :
    val_main_v118 (F := Ideal) x0 x1 x3 x8 x9 = val_main_v94 (F := Ideal) x0 x1 x3 x8 x9 := by
  simp only [val_main_v118, val_main_v117, val_main_v116, val_main_v115, val_main_v114, val_main_v113, val_main_v112, v102_eq, v104_eq,
    val_main_v94, val_main_v93, val_main_v92, val_main_v91, val_main_v90, val_main_v89, val_main_v88]

/-- The keys are rotated as the queries are. -/
theorem v122_eq (x0 : FVec Ideal S1x2048x768 .f32) (x1 : FVec Ideal S2048x32x2 .f32) (x3 : FVec Ideal S8x768x768 .f32)
    (x8 x9 : FVec Ideal S8x768 .f32) :
    val_main_v122 (F := Ideal) x0 x1 x3 x8 x9 = val_main_v98 (F := Ideal) x0 x1 x3 x8 x9 := by
  rw [val_main_v122, val_main_v121, val_main_v120, val_main_v119, v111_eq, v118_eq, val_main_v98, val_main_v97,
    val_main_v96, val_main_v95]

end Cert.ReferenceIdeal.Val

end
-- ==== Proof.RefAtt.lean ====
/-
The reference's attention and its closing sum, each stage at an index from the stage before it.
-/
module

public import proofs.«01_k».proof.Proof.Gen.ReferenceIdeal.Read
public import proofs.«01_k».proof.Proof.Maths
public import Idealize.ShloMosaic.Lib.Pointwise
public import Idealize.ShloMosaic.Lib.KernelVsHost
public import Idealize.ShloMosaic.Lib.ValueIdxRank6

@[expose] public section

set_option maxRecDepth 16384

noncomputable section

namespace Cert.ReferenceIdeal.Val

open Idealize.ShloMosaic Idealize.ShloMosaic.TcCoe Idealize.SL.Sem Idealize.ShloMosaic.StableHlo
open Cert.ReferenceIdeal Cert.ReferenceIdeal.Gen Cert.ReferenceIdeal.Read Cert.KernelIdeal.Maths

/-! ## The reference's attention, its stages one from the last -/

theorem scores_at (q k : FVec Ideal S8x1x2048x12x64 .f32) (e : Fin 8) (h : Fin 12) (r y : Fin 2048) :
    Host.dotGeneral dot_S8x12x2048x64_S8x12x64x2048_S8x12x2048x2048_3_2_2_3_01_01 none
        (shapeCast S8x12x2048x64 (transpose S8x1x12x2048x64 [0, 1, 3, 2, 4] q
          transposes_S8x1x2048x12x64_S8x1x12x2048x64_0_1_3_2_4) shapeCasts_S8x1x12x2048x64_S8x12x2048x64)
        (shapeCast S8x12x64x2048 (transpose S8x1x12x64x2048 [0, 1, 2, 4, 3] (transpose S8x1x12x2048x64 [0, 1, 3, 2, 4] k
          transposes_S8x1x2048x12x64_S8x1x12x2048x64_0_1_3_2_4) transposes_S8x1x12x2048x64_S8x1x12x64x2048_0_1_2_4_3)
          shapeCasts_S8x1x12x64x2048_S8x12x64x2048) (ix4 e h r y)
      = ∑ d : Fin 64, q (ix5 e 0 r h d) * k (ix5 e 0 y h d) := by
  pointwise
  first | rfl | skip

theorem v132_at (x0 : FVec Ideal S1x2048x768 .f32) (x1 : FVec Ideal S2048x32x2 .f32) (x2 x3 : FVec Ideal S8x768x768 .f32)
    (x6 x7 x8 x9 : FVec Ideal S8x768 .f32) (e : Fin 8) (h : Fin 12) (r y : Fin 2048) :
    val_main_v132 (F := Ideal) x0 x1 x2 x3 x6 x7 x8 x9 (ix5 e 0 h r y)
      = scaled (fun z => val_main_v129 (F := Ideal) x0 x1 x2 x3 x6 x7 x8 x9 (ix4 e h r z)) y := by
  rw [val_main_v132_apply, val_main_v130_apply, val_main_v131_apply]
  show Ideal.div (val_main_v129 (F := Ideal) x0 x1 x2 x3 x6 x7 x8 x9 (ix4 e h r y)) (Ideal.ofBits FTy.f32 0x41000000#32) = _
  rw [show Ideal.ofBits FTy.f32 0x41000000#32 = _ from ofBits_8]
  rfl

theorem v135_at (x0 : FVec Ideal S1x2048x768 .f32) (x1 : FVec Ideal S2048x32x2 .f32) (x2 x3 : FVec Ideal S8x768x768 .f32)
    (x6 x7 x8 x9 : FVec Ideal S8x768 .f32) (e : Fin 8) (h : Fin 12) (r : Fin 2048) :
    val_main_v135 (F := Ideal) x0 x1 x2 x3 x6 x7 x8 x9 (ix4 e 0 h r)
      = max ⊥ (Finset.fold max ⊥ (fun y => val_main_v132 (F := Ideal) x0 x1 x2 x3 x6 x7 x8 x9 (ix5 e 0 h r y)) Finset.univ) := by
  rw [val_main_v135_apply, val_main_v134_apply]
  unfold val_main_v133
  generalize val_main_v132 (F := Ideal) x0 x1 x2 x3 x6 x7 x8 x9 = s
  rw [Host.reduce_eq_fold_single (FloatOps.maximumf (F := Ideal) (φ := .f32)) s _ reducesTo_S8x1x12x2048x2048_S8x1x12x2048_d4 (by decide)]
  show max (Ideal.ofBits FTy.f32 0xFF800000#32) (Finset.fold max (Ideal.ofBits FTy.f32 0xFF800000#32) _ _) = _
  rw [show Ideal.ofBits FTy.f32 0xFF800000#32 = _ from ofBits_neg_top]
  refine congrArg (max ⊥) (congrArg (fun g => Finset.fold max ⊥ g Finset.univ) (funext fun k => congrArg s (funext fun a => Fin.ext ?_)))
  match a with
  | ⟨0, _⟩ => rfl
  | ⟨1, _⟩ => rfl
  | ⟨2, _⟩ => rfl
  | ⟨3, _⟩ => rfl
  | ⟨4, _⟩ => rfl

theorem v139_at (x0 : FVec Ideal S1x2048x768 .f32) (x1 : FVec Ideal S2048x32x2 .f32) (x2 x3 : FVec Ideal S8x768x768 .f32)
    (x6 x7 x8 x9 : FVec Ideal S8x768 .f32) (e : Fin 8) (h : Fin 12) (r y : Fin 2048) :
    val_main_v139 (F := Ideal) x0 x1 x2 x3 x6 x7 x8 x9 (ix5 e 0 h r y)
      = expRef (fun z => val_main_v129 (F := Ideal) x0 x1 x2 x3 x6 x7 x8 x9 (ix4 e h r z)) y := by
  have h1 : val_main_v139 (F := Ideal) x0 x1 x2 x3 x6 x7 x8 x9 (ix5 e 0 h r y)
      = Ideal.exp (val_main_v132 (F := Ideal) x0 x1 x2 x3 x6 x7 x8 x9 (ix5 e 0 h r y) - val_main_v135 (F := Ideal) x0 x1 x2 x3 x6 x7 x8 x9 (ix4 e 0 h r)) := by
    rw [val_main_v139_apply, val_main_v138_apply, val_main_v137_apply, val_main_v136_apply]
    generalize val_main_v132 (F := Ideal) x0 x1 x2 x3 x6 x7 x8 x9 = s
    generalize val_main_v135 (F := Ideal) x0 x1 x2 x3 x6 x7 x8 x9 = w
    show Ideal.exp (s _ - w _) = Ideal.exp (s _ - w _)
    refine congrArg Ideal.exp (congrArg (s _ - ·) (congrArg w (funext fun a => ?_)))
    match a with
    | ⟨0, _⟩ => rfl
    | ⟨1, _⟩ => rfl
    | ⟨2, _⟩ => rfl
    | ⟨3, _⟩ => rfl
  rw [h1, v135_at, v132_at]
  simp only [v132_at]
  rfl

theorem v143_at (x0 : FVec Ideal S1x2048x768 .f32) (x1 : FVec Ideal S2048x32x2 .f32) (x2 x3 : FVec Ideal S8x768x768 .f32)
    (x6 x7 x8 x9 : FVec Ideal S8x768 .f32) (e : Fin 8) (h : Fin 12) (r y : Fin 2048) :
    val_main_v143 (F := Ideal) x0 x1 x2 x3 x6 x7 x8 x9 (ix5 e 0 h r y)
      = Ideal.div (val_main_v139 (F := Ideal) x0 x1 x2 x3 x6 x7 x8 x9 (ix5 e 0 h r y))
          (∑ z, val_main_v139 (F := Ideal) x0 x1 x2 x3 x6 x7 x8 x9 (ix5 e 0 h r z)) := by
  unfold val_main_v143 val_main_v142 val_main_v141 val_main_v140
  generalize val_main_v139 (F := Ideal) x0 x1 x2 x3 x6 x7 x8 x9 = s
  pointwise [val_main_cst_14]
  first | rfl | skip

theorem v146_at (x0 : FVec Ideal S1x2048x768 .f32) (x1 : FVec Ideal S2048x32x2 .f32) (x2 x3 x4 : FVec Ideal S8x768x768 .f32)
    (x6 x7 x8 x9 : FVec Ideal S8x768 .f32) (e : Fin 8) (h : Fin 12) (r : Fin 2048) (d : Fin 64) :
    val_main_v146 (F := Ideal) x0 x1 x2 x3 x4 x6 x7 x8 x9 (ix4 e h r d)
      = ∑ y, val_main_v143 (F := Ideal) x0 x1 x2 x3 x6 x7 x8 x9 (ix5 e 0 h r y)
          * val_main_v74 (F := Ideal) x0 x4 (ix5 e 0 y h d) := by
  unfold val_main_v146 val_main_v145 val_main_v144 val_main_v125
  generalize val_main_v143 (F := Ideal) x0 x1 x2 x3 x6 x7 x8 x9 = w
  generalize val_main_v74 (F := Ideal) x0 x4 = v
  pointwise
  first | rfl | skip

theorem v149_at (x0 : FVec Ideal S1x2048x768 .f32) (x1 : FVec Ideal S2048x32x2 .f32) (x2 x3 x4 : FVec Ideal S8x768x768 .f32)
    (x6 x7 x8 x9 : FVec Ideal S8x768 .f32) (e : Fin 8) (r : Fin 2048) (c : Fin 768) :
    val_main_v149 (F := Ideal) x0 x1 x2 x3 x4 x6 x7 x8 x9 (ix4 e 0 r c)
      = val_main_v146 (F := Ideal) x0 x1 x2 x3 x4 x6 x7 x8 x9 (ix4 e (headOf c) r ⟨c.val % 64, by omega⟩) := by
  unfold val_main_v149 val_main_v148 val_main_v147
  generalize val_main_v146 (F := Ideal) x0 x1 x2 x3 x4 x6 x7 x8 x9 = w
  refine (shapeCast_apply _ _ _ (ix5 e 0 r (headOf c) ⟨c.val % 64, by omega⟩) ?_).trans ?_
  · rw [Shape.rowMajor_val_five, Shape.rowMajor_val_four]
    show (((e.val * 1 + 0) * 2048 + r.val) * 12 + c.val / 64) * 64 + c.val % 64 = ((e.val * 1 + 0) * 2048 + r.val) * 768 + c.val
    omega
  · pointwise
    first | rfl | skip

theorem v150_at (x0 : FVec Ideal S1x2048x768 .f32) (x1 : FVec Ideal S2048x32x2 .f32) (x2 x3 x4 x5 : FVec Ideal S8x768x768 .f32)
    (x6 x7 x8 x9 : FVec Ideal S8x768 .f32) (e : Fin 8) (r : Fin 2048) (c : Fin 768) :
    val_main_v150 (F := Ideal) x0 x1 x2 x3 x4 x5 x6 x7 x8 x9 (ix4 e 0 r c)
      = ∑ n : Fin 768, val_main_v149 (F := Ideal) x0 x1 x2 x3 x4 x6 x7 x8 x9 (ix4 e 0 r n) * x5 (ix3 e n c) := by
  unfold val_main_v150
  generalize val_main_v149 (F := Ideal) x0 x1 x2 x3 x4 x6 x7 x8 x9 = w
  pointwise

theorem v153_at (x0 : FVec Ideal S1x2048x768 .f32) (x10 : FVec Ideal S768x8 .f32) (x11 : FVec Ideal S8 .f32)
    (e : Fin 8) (r : Fin 2048) (c : Fin 768) :
    val_main_v153 (F := Ideal) x0 x10 x11 (ix4 e 0 r c) = val_main_v9 (F := Ideal) x0 x10 x11 (ix3 0 r e) := by
  unfold val_main_v153 val_main_v152 val_main_v151
  generalize val_main_v9 (F := Ideal) x0 x10 x11 = g
  pointwise

theorem v155_sum (x0 : FVec Ideal S1x2048x768 .f32) (x1 : FVec Ideal S2048x32x2 .f32) (x2 x3 x4 x5 : FVec Ideal S8x768x768 .f32)
    (x6 x7 x8 x9 : FVec Ideal S8x768 .f32) (x10 : FVec Ideal S768x8 .f32) (x11 : FVec Ideal S8 .f32) (r : Fin 2048) (c : Fin 768) :
    val_main_v155 (F := Ideal) x0 x1 x2 x3 x4 x5 x6 x7 x8 x9 x10 x11 (ix3 0 r c)
      = ∑ e : Fin 8, val_main_v150 (F := Ideal) x0 x1 x2 x3 x4 x5 x6 x7 x8 x9 (ix4 e 0 r c) * val_main_v153 (F := Ideal) x0 x10 x11 (ix4 e 0 r c) := by
  rw [val_main_v155_apply]
  show Ideal.ofBits FTy.f32 0#32 + _ = _
  rw [show Ideal.ofBits FTy.f32 0#32 = 0 from ofBits_zero, zero_add]
  refine Finset.sum_congr rfl fun e _ => ?_
  rw [val_main_v154_apply]
  have hi : idx_main_v155 (ix3 0 r c) e = ix4 e 0 r c := funext fun a => by
    match a with
    | ⟨0, _⟩ => rfl
    | ⟨1, _⟩ => rfl
    | ⟨2, _⟩ => rfl
    | ⟨3, _⟩ => rfl
  rw [hi]
  rfl

end Cert.ReferenceIdeal.Val

end
-- ==== Proof.RefFin.lean ====
/-
The reference's result at an index: the sum over the experts of what each contributes.
-/
module

public import proofs.«01_k».proof.Proof.Gen.ReferenceIdeal.Read
public import proofs.«01_k».proof.Proof.Ref
public import proofs.«01_k».proof.Proof.RefAtt
public import Idealize.ShloMosaic.Lib.Pointwise
public import Idealize.ShloMosaic.Lib.KernelVsHost
public import Idealize.ShloMosaic.Lib.ValueIdxRank6

@[expose] public section

set_option maxRecDepth 16384

noncomputable section

namespace Cert.ReferenceIdeal.Val

open Idealize.ShloMosaic Idealize.ShloMosaic.TcCoe Idealize.SL.Sem Idealize.ShloMosaic.StableHlo
open Cert.ReferenceIdeal Cert.ReferenceIdeal.Gen Cert.ReferenceIdeal.Read Cert.KernelIdeal.Maths

theorem v72_at (x0 : FVec Ideal S1x2048x768 .f32) (x4 : FVec Ideal S8x768x768 .f32) (e : Fin 8) (r : Fin 2048) (c : Fin 768) :
    val_main_v72 (F := Ideal) x0 x4 (ix4 0 r e c) = proj (actsOf x0) (matOf x4 e) r c := by
  pointwise [val_main_v72]
  rfl

theorem v74_at (x0 : FVec Ideal S1x2048x768 .f32) (x4 : FVec Ideal S8x768x768 .f32) (e : Fin 8) (r : Fin 2048) (h : Fin 12)
    (d : Fin 64) :
    val_main_v74 (F := Ideal) x0 x4 (ix5 e 0 r h d) = proj (actsOf x0) (matOf x4 e) r (lane h d) := by
  rw [← v72_at]
  unfold val_main_v74 val_main_v73
  generalize val_main_v72 (F := Ideal) x0 x4 = w
  refine (shapeCast_apply _ _ _ (ix4 e 0 r (lane h d)) ?_).trans ?_
  · rw [Shape.rowMajor_val_five, Shape.rowMajor_val_four]
    show ((e.val * 1 + 0) * 2048 + r.val) * 768 + (64 * h.val + d.val) = (((e.val * 1 + 0) * 2048 + r.val) * 12 + h.val) * 64 + d.val
    omega
  · pointwise

theorem v9_at (x0 : FVec Ideal S1x2048x768 .f32) (x10 : FVec Ideal S768x8 .f32) (x11 : FVec Ideal S8 .f32) (e : Fin 8)
    (r : Fin 2048) :
    val_main_v9 (F := Ideal) x0 x10 x11 (ix3 0 r e)
      = gate (actsOf x0) (fun k e => x10 (ix2 k e)) (fun e => x11 (ix1 e)) e r := by
  pointwise [val_main_v9, val_main_v8, val_main_v7, val_main_v6, val_main_v5, val_main_v4, val_main_v3, val_main_v2,
    val_main_v1, val_main_v0, val_main_cst, val_main_cst_0]
  rfl

theorem v129_at (x0 : FVec Ideal S1x2048x768 .f32) (x1 : FVec Ideal S2048x32x2 .f32) (x2 x3 : FVec Ideal S8x768x768 .f32)
    (x6 x7 x8 x9 : FVec Ideal S8x768 .f32) (e : Fin 8) (h : Fin 12) (r y : Fin 2048) :
    val_main_v129 (F := Ideal) x0 x1 x2 x3 x6 x7 x8 x9 (ix4 e h r y)
      = score (rotated (actsOf x0) (matOf x2 e) (rowOf x6 e) (rowOf x7 e) (trigOf x1 0) (trigOf x1 1))
          (rotated (actsOf x0) (matOf x3 e) (rowOf x8 e) (rowOf x9 e) (trigOf x1 0) (trigOf x1 1)) h r y := by
  rw [val_main_v129, val_main_v128, val_main_v127, val_main_v126, val_main_v124, val_main_v123, v122_eq, scores_at]
  unfold score
  exact Finset.sum_congr rfl fun d _ => by rw [v98_at, v98_at]

/-- One expert's attention. -/
theorem v149_full (x0 : FVec Ideal S1x2048x768 .f32) (x1 : FVec Ideal S2048x32x2 .f32) (x2 x3 x4 : FVec Ideal S8x768x768 .f32)
    (x6 x7 x8 x9 : FVec Ideal S8x768 .f32) (e : Fin 8) (r : Fin 2048) (c : Fin 768) :
    val_main_v149 (F := Ideal) x0 x1 x2 x3 x4 x6 x7 x8 x9 (ix4 e 0 r c)
      = attend (rotated (actsOf x0) (matOf x2 e) (rowOf x6 e) (rowOf x7 e) (trigOf x1 0) (trigOf x1 1))
          (rotated (actsOf x0) (matOf x3 e) (rowOf x8 e) (rowOf x9 e) (trigOf x1 0) (trigOf x1 1))
          (proj (actsOf x0) (matOf x4 e)) r c := by
  have hl : lane (headOf c) ⟨c.val % 64, by omega⟩ = c := Fin.ext (by
    show 64 * (c.val / 64) + c.val % 64 = c.val; omega)
  rw [v149_at, v146_at]
  unfold attend softRef
  refine Finset.sum_congr rfl fun y _ => ?_
  rw [v143_at, v74_at, hl]
  simp only [v139_at, v129_at]

/-- What expert `e` adds to the result. -/
def expertTerm (x0 : FVec Ideal S1x2048x768 .f32) (x1 : FVec Ideal S2048x32x2 .f32) (x2 x3 x4 x5 : FVec Ideal S8x768x768 .f32)
    (x6 x7 x8 x9 : FVec Ideal S8x768 .f32) (x10 : FVec Ideal S768x8 .f32) (x11 : FVec Ideal S8 .f32)
    (e : Fin 8) (r : Fin 2048) (c : Fin 768) : EReal :=
  contrib (attend (rotated (actsOf x0) (matOf x2 e) (rowOf x6 e) (rowOf x7 e) (trigOf x1 0) (trigOf x1 1))
      (rotated (actsOf x0) (matOf x3 e) (rowOf x8 e) (rowOf x9 e) (trigOf x1 0) (trigOf x1 1))
      (proj (actsOf x0) (matOf x4 e)))
    (matOf x5 e) (gate (actsOf x0) (fun k e => x10 (ix2 k e)) (fun e => x11 (ix1 e)) e) r c

/-- The reference's result: the experts' contributions summed. -/
theorem v155_at (x0 : FVec Ideal S1x2048x768 .f32) (x1 : FVec Ideal S2048x32x2 .f32) (x2 x3 x4 x5 : FVec Ideal S8x768x768 .f32)
    (x6 x7 x8 x9 : FVec Ideal S8x768 .f32) (x10 : FVec Ideal S768x8 .f32) (x11 : FVec Ideal S8 .f32)
    (r : Fin 2048) (c : Fin 768) :
    val_main_v155 (F := Ideal) x0 x1 x2 x3 x4 x5 x6 x7 x8 x9 x10 x11 (ix3 0 r c)
      = ∑ e, expertTerm x0 x1 x2 x3 x4 x5 x6 x7 x8 x9 x10 x11 e r c := by
  rw [v155_sum]
  refine Finset.sum_congr rfl fun e _ => ?_
  rw [v150_at, v153_at, v9_at]
  unfold expertTerm contrib
  refine congrArg (· * _) (Finset.sum_congr rfl fun n _ => ?_)
  rw [v149_full]
  rfl

end Cert.ReferenceIdeal.Val

end
-- ==== Proof.Result.lean ====
/-
The value of the kernel's result: at every index, the sum over the experts of what the reference has each contribute.
-/
module

public import proofs.«01_k».proof.Proof.Region
public import proofs.«01_k».proof.Proof.Host
public import proofs.«01_k».proof.Proof.Kern
public import proofs.«01_k».proof.Proof.RefFin

@[expose] public section

set_option maxRecDepth 16384

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.KernelIdeal.Maths
open Cert.ReferenceIdeal.Val (actsOf matOf rowOf trigOf expertTerm)

variable (m : (ℓ : Loc nD τ sig) → Buf (Elt Ideal) ℓ) (c : Dev nD)

/-! ## The blocks the points read -/

/-- The expert of a point. -/
def expertOf (t : Fin cfg0.N) : Fin 8 := ⟨t.val, lt_of_lt_of_eq t.isLt (show cfg0.N = 8 from N_0)⟩

theorem coord_eq (t : Fin cfg0.N) : (grid0.coords t 0).val = (expertOf t).val := by
  have h : (grid0.coords t 0).val = t.val / 1 % 8 := Pipeline.Grid.coords_val t 0 (by decide) rfl
  have hN : t.val < 8 := (expertOf t).isLt
  rw [h]
  show t.val / 1 % 8 = t.val
  omega

theorem coord_nat (t : Fin cfg0.N) : (BitVec.ofNat 32 (grid0.coords t 0).val).toNat = (expertOf t).val := by
  have hN := (expertOf t).isLt
  rw [coord_eq, BitVec.toNat_ofNat]
  omega

/-- An index of a whole array of two axes, as the window that takes it whole computes it. -/
theorem whole_idx {n p : ℕ} (i : Fin n) (j : Fin p) (y : Shape.Idx ⟨2, ![n, p]⟩) (h0 : (y 0).val = 0 * n + 1 * i.val)
    (h1 : (y 1).val = 0 * p + 1 * j.val) : y = ix2 i j := by
  funext a
  refine Fin.ext ?_
  match a with
  | ⟨0, _⟩ => exact h0.trans (by show _ = i.val; omega)
  | ⟨1, _⟩ => exact h1.trans (by show _ = j.val; omega)

/-- An index of an array of one block per expert, as the window that takes the point's expert computes it. -/
theorem expert_idx {n p : ℕ} (t : Fin cfg0.N) (i : Fin n) (j : Fin p) (y : Shape.Idx ⟨3, ![8, n, p]⟩)
    (h0 : (y 0).val = (BitVec.ofNat 32 (grid0.coords t 0).val).toNat * 1 + 1 * 0) (h1 : (y 1).val = 0 * n + 1 * i.val)
    (h2 : (y 2).val = 0 * p + 1 * j.val) : y = ix3 (expertOf t) i j := by
  funext a
  refine Fin.ext ?_
  match a with
  | ⟨0, _⟩ => exact h0.trans (by rw [coord_nat]; show _ = (expertOf t).val; omega)
  | ⟨1, _⟩ => exact h1.trans (by show _ = i.val; omega)
  | ⟨2, _⟩ => exact h2.trans (by show _ = j.val; omega)

theorem iblk_x (t : Fin cfg0.N) (r : Fin 2048) (k : Fin 768) : iblk m c 0 t (ix2 r k) = arrX m c (ix2 r k) := by
  unfold iblk
  exact (View.read_apply ..).trans (congrArg (V m c main_v2) (whole_idx r k _ rfl rfl))

theorem iblk_cs (t : Fin cfg0.N) (r : Fin 2048) (k : Fin 768) : iblk m c 1 t (ix2 r k) = arrCs m c (ix2 r k) := by
  unfold iblk
  exact (View.read_apply ..).trans (congrArg (V m c main_v50) (whole_idx r k _ rfl rfl))

theorem iblk_gw (t : Fin cfg0.N) (k : Fin 768) (j : Fin 8) : iblk m c 2 t (ix2 k j) = arrGw m c (ix2 k j) := by
  unfold iblk
  exact (View.read_apply ..).trans (congrArg (V m c main_v41) (whole_idx k j _ rfl rfl))

theorem iblk_gb (t : Fin cfg0.N) (j : Fin 8) : iblk m c 3 t (ix2 0 j) = arrGb m c (ix2 0 j) := by
  unfold iblk
  exact (View.read_apply ..).trans (congrArg (V m c main_v0) (whole_idx 0 j _ rfl rfl))

theorem iblk_wq (t : Fin cfg0.N) (k j : Fin 768) : iblk m c 4 t (ix3 0 k j) = arrWq m c (ix3 (expertOf t) k j) := by
  unfold iblk
  exact (View.read_apply ..).trans (congrArg (V m c main_v8) (expert_idx t k j _ rfl rfl rfl))

theorem iblk_wk (t : Fin cfg0.N) (k j : Fin 768) : iblk m c 5 t (ix3 0 k j) = arrWk m c (ix3 (expertOf t) k j) := by
  unfold iblk
  exact (View.read_apply ..).trans (congrArg (V m c main_v14) (expert_idx t k j _ rfl rfl rfl))

theorem iblk_wv (t : Fin cfg0.N) (k j : Fin 768) : iblk m c 6 t (ix3 0 k j) = arrWv m c (ix3 (expertOf t) k j) := by
  unfold iblk
  exact (View.read_apply ..).trans (congrArg (V m c main_v15) (expert_idx t k j _ rfl rfl rfl))

theorem iblk_wo (t : Fin cfg0.N) (k j : Fin 768) : iblk m c 7 t (ix3 0 k j) = arrWo m c (ix3 (expertOf t) k j) := by
  unfold iblk
  exact (View.read_apply ..).trans (congrArg (V m c main_v16) (expert_idx t k j _ rfl rfl rfl))

theorem iblk_qg (t : Fin cfg0.N) (j : Fin 768) : iblk m c 8 t (ix3 0 0 j) = arrQg m c (ix3 (expertOf t) 0 j) := by
  unfold iblk
  exact (View.read_apply ..).trans (congrArg (V m c main_v22) (expert_idx t 0 j _ rfl rfl rfl))

theorem iblk_qb (t : Fin cfg0.N) (j : Fin 768) : iblk m c 9 t (ix3 0 0 j) = arrQb m c (ix3 (expertOf t) 0 j) := by
  unfold iblk
  exact (View.read_apply ..).trans (congrArg (V m c main_v28) (expert_idx t 0 j _ rfl rfl rfl))

theorem iblk_kg (t : Fin cfg0.N) (j : Fin 768) : iblk m c 10 t (ix3 0 0 j) = arrKg m c (ix3 (expertOf t) 0 j) := by
  unfold iblk
  exact (View.read_apply ..).trans (congrArg (V m c main_v34) (expert_idx t 0 j _ rfl rfl rfl))

theorem iblk_kb (t : Fin cfg0.N) (j : Fin 768) : iblk m c 11 t (ix3 0 0 j) = arrKb m c (ix3 (expertOf t) 0 j) := by
  unfold iblk
  exact (View.read_apply ..).trans (congrArg (V m c main_v40) (expert_idx t 0 j _ rfl rfl rfl))

/-! ## What a point adds, and what all of them leave -/

/-- Every entry of the arguments that the normalisation, the rotation and the scores read is a real number. -/
structure FiniteArgs : Prop where
  a0 : ∀ i, IsReal (arg0 m c i)
  a1 : ∀ i, IsReal (arg1 m c i)
  a2 : ∀ i, IsReal (arg2 m c i)
  a3 : ∀ i, IsReal (arg3 m c i)
  a6 : ∀ i, IsReal (arg6 m c i)
  a7 : ∀ i, IsReal (arg7 m c i)
  a8 : ∀ i, IsReal (arg8 m c i)
  a9 : ∀ i, IsReal (arg9 m c i)

/-- What the reference has expert `e` contribute, from this program's arguments. -/
def term (e : Fin 8) (r : Fin 2048) (k : Fin 768) : EReal :=
  expertTerm (arg0 m c) (arg1 m c) (arg2 m c) (arg3 m c) (arg4 m c) (arg5 m c) (arg6 m c) (arg7 m c) (arg8 m c) (arg9 m c)
    (arg10 m c) (arg11 m c) e r k

theorem pointAcc_at (h : FiniteArgs m c) (t : Fin cfg0.N) (r : Fin 2048) (k : Fin 768) :
    expertAcc (iblk m c 0 t) (iblk m c 4 t) (iblk m c 5 t) (iblk m c 6 t) (iblk m c 8 t) (iblk m c 9 t) (iblk m c 10 t)
        (iblk m c 11 t) onesArr (cosAll m c) (sinAll m c) (ix2 r k)
      = attend (rotated (actsOf (arg0 m c)) (matOf (arg2 m c) (expertOf t)) (rowOf (arg6 m c) (expertOf t))
            (rowOf (arg7 m c) (expertOf t)) (trigOf (arg1 m c) 0) (trigOf (arg1 m c) 1))
          (rotated (actsOf (arg0 m c)) (matOf (arg3 m c) (expertOf t)) (rowOf (arg8 m c) (expertOf t))
            (rowOf (arg9 m c) (expertOf t)) (trigOf (arg1 m c) 0) (trigOf (arg1 m c) 1))
          (proj (actsOf (arg0 m c)) (matOf (arg4 m c) (expertOf t))) r k :=
  expertAcc_at (actsOf (arg0 m c)) (matOf (arg2 m c) (expertOf t)) (matOf (arg3 m c) (expertOf t)) (matOf (arg4 m c) (expertOf t))
    (rowOf (arg6 m c) (expertOf t)) (rowOf (arg7 m c) (expertOf t)) (rowOf (arg8 m c) (expertOf t)) (rowOf (arg9 m c) (expertOf t))
    (trigOf (arg1 m c) 0) (trigOf (arg1 m c) 1)
    (fun r k => (iblk_x m c t r k).trans (arrX_at m c r k))
    (fun k j => (iblk_wq m c t k j).trans (arrWq_at m c _ k j))
    (fun k j => (iblk_wk m c t k j).trans (arrWk_at m c _ k j))
    (fun k j => (iblk_wv m c t k j).trans (arrWv_at m c _ k j))
    (fun j => (iblk_qg m c t j).trans (arrQg_at m c _ j))
    (fun j => (iblk_qb m c t j).trans (arrQb_at m c _ j))
    (fun j => (iblk_kg m c t j).trans (arrKg_at m c _ j))
    (fun j => (iblk_kb m c t j).trans (arrKb_at m c _ j))
    (fun r j hj => (iblk_cs m c pt0 r j).trans (arrCs_cos m c r j hj))
    (fun r j hj => (iblk_cs m c pt0 r j).trans (arrCs_sin m c r j hj))
    (fun _ _ => h.a0 _) (fun _ _ => h.a2 _) (fun _ _ => h.a3 _) (fun _ => h.a6 _) (fun _ => h.a7 _) (fun _ => h.a8 _)
    (fun _ => h.a9 _) (fun _ _ => h.a1 _) (fun _ _ => h.a1 _) r k

theorem pointOut_at (h : FiniteArgs m c) (t : Fin cfg0.N) (old : Vec Ideal S2048x768 .f32) (r : Fin 2048) (k : Fin 768) :
    pointOut m c t old (ix2 r k) = old (ix2 r k) + term m c (expertOf t) r k := by
  unfold pointOut
  rw [coord_eq]
  exact outStep_at (actsOf (arg0 m c)) (fun k e => arg10 m c (ix2 k e)) (fun e => arg11 m c (ix1 e)) (matOf (arg5 m c) (expertOf t))
    _ (expertOf t)
    (fun r k => (iblk_x m c t r k).trans (arrX_at m c r k))
    (fun k j => (iblk_gw m c t k j).trans (arrGw_at m c k j))
    (fun j => (iblk_gb m c t j).trans (arrGb_at m c j))
    (fun k j => (iblk_wo m c t k j).trans (arrWo_at m c _ k j))
    (pointAcc_at m c h t) old r k

theorem outAt_at (h : FiniteArgs m c) (r : Fin 2048) (k : Fin 768) : ∀ (n : ℕ) (hn : n < cfg0.N),
    outAt m c n hn (ix2 r k)
      = ∑ i : Fin (n + 1), term m c ⟨i.val, lt_of_lt_of_eq (Nat.lt_of_le_of_lt (Nat.le_of_lt_succ i.isLt) hn) (show cfg0.N = 8 from N_0)⟩ r k
  | 0, hn => by
    rw [Fin.sum_univ_one]
    refine (pointOut_at m c h ⟨0, hn⟩ _ r k).trans ?_
    show Ideal.ofBits .f32 0x00000000#32 + _ = _
    rw [ofBits_zero, zero_add]
    rfl
  | n + 1, hn => by
    rw [Fin.sum_univ_castSucc]
    refine (pointOut_at m c h ⟨n + 1, hn⟩ _ r k).trans ?_
    rw [outAt_at h r k n (Nat.lt_of_succ_lt hn)]
    rfl

/-- The last point of the grid. -/
def ptLast : Fin cfg0.N := ⟨7, lt_of_lt_of_eq (by decide) (show cfg0.N = 8 from N_0).symm⟩

theorem outLast_at (h : FiniteArgs m c) (r : Fin 2048) (k : Fin 768) :
    outAt m c ptLast.val ptLast.isLt (ix2 r k) = ∑ e : Fin 8, term m c e r k :=
  outAt_at m c h r k 7 ptLast.isLt

/-! ## The array the region writes, and the result -/

theorem flushed_eq (t : Fin cfg0.N) (hf : (cfg0.win 12).flush t = true) :
    (dats m 0 c).flushed 12 t = ((cfg0.win 12).blk t).view.read (Elt Ideal) (outAt m c ptLast.val ptLast.isLt) := by
  have h7 : t.val % 8 = 7 := (flush0_12 t).mp hf
  have hN : t.val < 8 := (expertOf t).isLt
  obtain rfl : t = ptLast := Fin.ext (by show t.val = 7; omega)
  show (cfg0.win 12).cut (grid0.coords ptLast) ((dats m 0 c).after 12 ptLast) = _
  rw [after_out]
  have hz : (fun a => win0_12.index ptLast a * main_v51.ty.shape.size a) = fun _ => 0 := by
    funext a
    match a with
    | ⟨0, _⟩ => rfl
    | ⟨1, _⟩ => rfl
  exact (Memref.read_access_unit_zero (Elt Ideal) main_v51 hz (fun a => by rw [congrFun hz a]; exact Nat.le_of_eq (Nat.zero_add _)) (outAt m c ptLast.val ptLast.isLt)).symm

theorem arr_out : (dats m 0 c).arrAt 12 cfg0.N = outAt m c ptLast.val ptLast.isLt :=
  (dats m 0 c).arrAt_eq_of_cover 12 _ (flushed_eq m c) fun i => ⟨ptLast, (flush0_12 ptLast).mpr rfl, by
    show i ∈ ((View.whole main_v51).slice (win0_12.rect ptLast)).set
    rw [View.set_slice_whole, Rect.mem_set_unit]
    intro a
    match a with
    | ⟨0, h0⟩ => exact ⟨Nat.zero_le _, (i ⟨0, h0⟩).isLt⟩
    | ⟨1, h1⟩ => exact ⟨Nat.zero_le _, (i ⟨1, h1⟩).isLt⟩⟩

theorem arrRef_inj : Function.Injective (Pipeline.arrRef spec0) := by
  have h : ∀ a b : Fin 13, Pipeline.arrRef spec0 a = Pipeline.arrRef spec0 b → a = b := by decide
  exact fun a b e => h a b e

/-- The result: the region's array with a unit axis in front. -/
def result : FVec Ideal S1x2048x768 .f32 :=
  broadcastInDim S1x2048x768 ![1, 2] bcast_S2048x768_S1x2048x768_1_2 (outAt m c ptLast.val ptLast.isLt : FVec Ideal S2048x768 .f32)

theorem tail_result : Pipeline.afterTail₀ cfgs (dats m) 0 (V0 m) [hostOps1] c main_v52 = result m c := by
  have h51 : Pipeline.withArrays spec0 c (V0 m c) (fun w => (dats m 0 c).arrAt w cfg0.N) (Proc.devRef .tc main_v51)
      = outAt m c ptLast.val ptLast.isLt :=
    (Pipeline.withArrays_arr spec0 arrRef_inj c (V0 m c) _ 12).trans (arr_out m c)
  unfold Pipeline.afterTail₀
  show StableHlo.after hostOps1 (Pipeline.withArrays spec0 c (V0 m c) fun w => (dats m 0 c).arrAt w cfg0.N) (Proc.devRef .tc main_v52) = _
  generalize Pipeline.withArrays spec0 c (V0 m c) (fun w => (dats m 0 c).arrAt w cfg0.N) = W at h51 ⊢
  after_reads_simp
  rw [h51]
  rfl

/-- The result is the reference's, of the same arguments. -/
theorem result_eq (h : FiniteArgs m c) :
    result m c = Cert.ReferenceIdeal.Read.val_main_v155 (F := Ideal) (arg0 m c) (arg1 m c) (arg2 m c) (arg3 m c) (arg4 m c) (arg5 m c)
      (arg6 m c) (arg7 m c) (arg8 m c) (arg9 m c) (arg10 m c) (arg11 m c) := by
  funext i
  obtain ⟨r, k, rfl⟩ : ∃ (r : Fin 2048) (k : Fin 768), i = ix3 0 r k := ⟨i 1, i 2, by
    funext a
    match a with
    | ⟨0, _⟩ => exact Subsingleton.elim (α := Fin 1) _ _
    | ⟨1, _⟩ => rfl
    | ⟨2, _⟩ => rfl⟩
  rw [Cert.ReferenceIdeal.Val.v155_at]
  unfold result
  refine (broadcastInDim_apply _ _ _ _ (ix2 r k) fun a => ?_).trans (outLast_at m c h r k)
  match a with
  | ⟨0, _⟩ => rfl
  | ⟨1, _⟩ => rfl

variable (ρ : Dev nD → PrngReg)

/-- The run with its value: the result as above, the arguments unchanged. -/
theorem run_value : θ_run defs (onTc (τ := τ) (main (F := Ideal))) ⟨m, fun _ => 0, ρ⟩ (fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun _ h c => ⟨((h.1 c).2 main_v52 (Pipeline.mem_restRefs_of main_v52 (by decide) (by decide))).trans (tail_result m c), h.2 c⟩)
    (θ_run_and (run_main m ρ) (unchanged m ρ))

end Cert.KernelIdeal.Val

end
-- ==== Proof.lean ====
/-
The proof of the certificate's claims.

`Printed` proves the frame of the printed kernel. The ideal program's region is proved by hand: `LoopVals` and `Heads` say
what each loop of the body leaves, `Blocks` and `Covers` support them, `Body` joins the loops into one grid point, `Region`
into the whole launch. `Host` reads the arrays the host lines prepare, `Kern` compares one expert of the kernel with plain
mathematics (`Maths`), `Result` sums the experts. `Ref`, `RefAtt` and `RefFin` read the reference the same way, and `Args`
reads the precondition.
-/
module

public import proofs.«01_k».proof.Defs
public import proofs.«01_k».proof.Proof.Gen.Kernel
public import proofs.«01_k».proof.Proof.Printed
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Args
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

instance : Cert.Pre_finite_inputs.Facts := Cert.Pre_finite_inputs.facts

theorem frame_kernel : Cert.quiescent_Kernel (hKernel := Cert.Kernel.Gen.facts) := fun m ρ _ =>
  Cert.Kernel.Printed.frame_printed m ρ

theorem frame_ideal : Cert.quiescent_KernelIdeal (hKernelIdeal := Cert.KernelIdeal.Gen.facts) :=
  fun m ρ _ => Cert.KernelIdeal.Val.frame_ideal m ρ

theorem frame_ideal_finite : Cert.quiescent_KernelIdeal_pre_finite_inputs (hKernelIdeal := Cert.KernelIdeal.Gen.facts) :=
  fun m ρ _ => Cert.KernelIdeal.Val.frame_ideal m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_inputs (hReferenceIdeal := Cert.ReferenceIdeal.Gen.facts) :=
  fun m ρ _ => frame_reference m ρ trivial

theorem preserves : Cert.preserves_Kernel_KernelIdeal :=
  ⟨IdealRules.named_const.statement Cert.KernelIdeal.κ "inv_dim" .f32 0x3AAAAAAB#32 _ rfl,
    IdealRules.named_const.statement Cert.KernelIdeal.κ "qscale" .f32 0x3E38AA3B#32 _ rfl⟩

/-- The precondition makes the arguments it names real. -/
theorem finite_args (m : (ℓ : Loc Cert.KernelIdeal.nD Cert.KernelIdeal.τ Cert.KernelIdeal.sig) → Buf (Elt Ideal) ℓ)
    (h : Cert.Pre_KernelIdeal_finite_inputs m) (c : Dev Cert.KernelIdeal.nD) : Cert.KernelIdeal.Val.FiniteArgs m c := by
  obtain ⟨h0, h1, h2, h3, h6, h7, h8, h9⟩ := Cert.Pre_finite_inputs.reals_of_fn (h c)
  exact ⟨h0, h1, h2, h3, h6, h7, h8, h9⟩

theorem algebraic : Cert.algebraic_KernelIdeal_ReferenceIdeal_pre_finite_inputs (hKernelIdeal := Cert.KernelIdeal.Gen.facts)
    (hReferenceIdeal := Cert.ReferenceIdeal.Gen.facts) := by
  intro m ρ m' ρ' hpre hagree
  refine ⟨fun c => Cert.KernelIdeal.Val.result m c, Cert.KernelIdeal.Val.run_value m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v155_eq (F := Ideal) (StableHlo.launchContents m' c)).trans ?_
  refine Eq.trans ?_ (Cert.KernelIdeal.Val.result_eq m c (finite_args m hpre c)).symm
  obtain ⟨a0, a1, a2, a3, a4, a5, a6, a7, a8, a9, a10, a11⟩ := hagree c
  simp only [StableHlo.launchContents_devRef, a0, a1, a2, a3, a4, a5, a6, a7, a8, a9, a10, a11]
  rfl

theorem claim : Cert.Claim :=
  ⟨Cert.Kernel.Gen.facts, Cert.KernelIdeal.Gen.facts, Cert.ReferenceIdeal.Gen.facts, Cert.Pre_finite_inputs.facts,
    frame_kernel, frame_ideal, frame_ideal_finite, frame_reference, frame_reference_finite, preserves, algebraic⟩

end Cert.Proof

end
